-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_every_node_kept [hPre_every_node_kept : Cert.Pre_every_node_kept.Facts] (m : (ℓ : Loc Cert.KernelIdeal.nD Cert.KernelIdeal.τ Cert.KernelIdeal.sig) → Buf (Elt Ideal) ℓ) : Prop :=
  ∀ c : Dev Cert.KernelIdeal.nD,
    (Cert.Pre_every_node_kept.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_every_node_kept [hPre_every_node_kept : Cert.Pre_every_node_kept.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_every_node_kept.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_every_node_kept [hKernelIdeal : Cert.KernelIdeal.Facts] [hPre_every_node_kept : Cert.Pre_every_node_kept.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_every_node_kept m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_every_node_kept [hReferenceIdeal : Cert.ReferenceIdeal.Facts] [hPre_every_node_kept : Cert.Pre_every_node_kept.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_every_node_kept m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_every_node_kept [hKernelIdeal : Cert.KernelIdeal.Facts] [hReferenceIdeal : Cert.ReferenceIdeal.Facts] [hPre_every_node_kept : Cert.Pre_every_node_kept.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_every_node_kept m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_every_node_kept : Cert.Pre_every_node_kept.Facts),
    quiescent_Kernel (hKernel := hKernel)
    ∧ quiescent_KernelIdeal (hKernelIdeal := hKernelIdeal)
    ∧ quiescent_KernelIdeal_pre_every_node_kept (hKernelIdeal := hKernelIdeal) (hPre_every_node_kept := hPre_every_node_kept)
    ∧ quiescent_ReferenceIdeal (hReferenceIdeal := hReferenceIdeal)
    ∧ quiescent_ReferenceIdeal_pre_every_node_kept (hReferenceIdeal := hReferenceIdeal) (hPre_every_node_kept := hPre_every_node_kept)
    ∧ preserves_Kernel_KernelIdeal
    ∧ algebraic_KernelIdeal_ReferenceIdeal_pre_every_node_kept (hKernelIdeal := hKernelIdeal) (hReferenceIdeal := hReferenceIdeal) (hPre_every_node_kept := hPre_every_node_kept)
-- ==== Pre_every_node_kept.lean ====
abbrev S20x1024x16 : Shape := ⟨3, ![20, 1024, 16]⟩
abbrev S20x1024x1024 : Shape := ⟨3, ![20, 1024, 1024]⟩
abbrev S8x20x128 : Shape := ⟨3, ![8, 20, 128]⟩
abbrev S16x256 : Shape := ⟨2, ![16, 256]⟩
abbrev S256 : Shape := ⟨1, ![256]⟩
abbrev S256x256 : Shape := ⟨2, ![256, 256]⟩
abbrev S1024x256 : Shape := ⟨2, ![1024, 256]⟩
abbrev S1024 : Shape := ⟨1, ![1024]⟩
abbrev S256x64 : Shape := ⟨2, ![256, 64]⟩
abbrev S64 : Shape := ⟨1, ![64]⟩
abbrev S_ : Shape := ⟨0, ![]⟩

class Facts : Prop where
  reducesTo_S8x20x128_S_d0_1_2 : S8x20x128.ReducesTo [0, 1, 2] S_
  h_S_ : 0 < S_.numel

variable [Facts]

def fn {F : FTy → Type} [FloatOps F] (main_arg0 : FVec F S20x1024x16 .f32) (main_arg1 : FVec F S20x1024x1024 .f32) (main_arg2 : IVec S8x20x128 1) (main_arg3 : FVec F S16x256 .f32) (main_arg4 : FVec F S256 .f32) (main_arg5 : FVec F S256x256 .f32) (main_arg6 : FVec F S256 .f32) (main_arg7 : FVec F S1024x256 .f32) (main_arg8 : FVec F S1024x256 .f32) (main_arg9 : FVec F S1024 .f32) (main_arg10 : FVec F S1024 .f32) (main_arg11 : FVec F S256x256 .f32) (main_arg12 : FVec F S256 .f32) (main_arg13 : FVec F S256x64 .f32) (main_arg14 : FVec F S64 .f32) : IVec S_ 1 :=
  let main_c : IVec S_ 1 := constantI S_ 1 1#1
  let main_v0 : IVec S_ 1 := (fun x v => Host.reduce IntOp.andi x v reducesTo_S8x20x128_S_d0_1_2 h_S_) main_arg2 main_c
  main_v0
-- ==== Kernel.lean ====
abbrev S20x1024x16 : Shape := ⟨3, ![20, 1024, 16]⟩
abbrev S20x1024x1024 : Shape := ⟨3, ![20, 1024, 1024]⟩
abbrev S8x20x128 : Shape := ⟨3, ![8, 20, 128]⟩
abbrev S16x256 : Shape := ⟨2, ![16, 256]⟩
abbrev S256 : Shape := ⟨1, ![256]⟩
abbrev S256x256 : Shape := ⟨2, ![256, 256]⟩
abbrev S1024x256 : Shape := ⟨2, ![1024, 256]⟩
abbrev S1024 : Shape := ⟨1, ![1024]⟩
abbrev S256x64 : Shape := ⟨2, ![256, 64]⟩
abbrev S64 : Shape := ⟨1, ![64]⟩
abbrev S1x256 : Shape := ⟨2, ![1, 256]⟩
abbrev S20x1024x256 : Shape := ⟨3, ![20, 1024, 256]⟩
abbrev S1024x20x256 : Shape := ⟨3, ![1024, 20, 256]⟩
abbrev S_ : Shape := ⟨0, ![]⟩
abbrev S512 : Shape := ⟨1, ![512]⟩
abbrev S1x1024 : Shape := ⟨2, ![1, 1024]⟩
abbrev S256x1024 : Shape := ⟨2, ![256, 1024]⟩
abbrev S512x1024 : Shape := ⟨2, ![512, 1024]⟩
abbrev S1x64 : Shape := ⟨2, ![1, 64]⟩
abbrev S1024x20x64 : Shape := ⟨3, ![1024, 20, 64]⟩
abbrev S8x128x20x64 : Shape := ⟨4, ![8, 128, 20, 64]⟩
abbrev S1x1024x1024 : Shape := ⟨3, ![1, 1024, 1024]⟩
abbrev S1x1024x16 : Shape := ⟨3, ![1, 1024, 16]⟩
abbrev S1x1024x256 : Shape := ⟨3, ![1, 1024, 256]⟩
abbrev S1024x1024 : Shape := ⟨2, ![1024, 1024]⟩
abbrev S1024x1 : Shape := ⟨2, ![1024, 1]⟩
abbrev S1024x16 : Shape := ⟨2, ![1024, 16]⟩
abbrev S256x20x256 : Shape := ⟨3, ![256, 20, 256]⟩
abbrev S256x20x64 : Shape := ⟨3, ![256, 20, 64]⟩
abbrev S20x256 : Shape := ⟨2, ![20, 256]⟩
abbrev S1x20x256 : Shape := ⟨3, ![1, 20, 256]⟩
abbrev S20x1024 : Shape := ⟨2, ![20, 1024]⟩
abbrev S20x512 : Shape := ⟨2, ![20, 512]⟩
abbrev S256x1x256 : Shape := ⟨3, ![256, 1, 256]⟩
abbrev S256x1x64 : Shape := ⟨3, ![256, 1, 64]⟩

abbrev nBuf : Space → Nat
  | .hbm => 46
  | .vmem => 23
  | .smem => 0
  | _ => 0

abbrev bufTy : (tb : Table) → Fin (tcTables nBuf tb) → BufTy
  | .hbm, ⟨0, _⟩ => ⟨S20x1024x16, .f32⟩
  | .hbm, ⟨1, _⟩ => ⟨S20x1024x1024, .f32⟩
  | .hbm, ⟨2, _⟩ => ⟨S8x20x128, .i1⟩
  | .hbm, ⟨3, _⟩ => ⟨S16x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S1024x256, .f32⟩
  | .hbm, ⟨8, _⟩ => ⟨S1024x256, .f32⟩
  | .hbm, ⟨9, _⟩ => ⟨S1024, .f32⟩
  | .hbm, ⟨10, _⟩ => ⟨S1024, .f32⟩
  | .hbm, ⟨11, _⟩ => ⟨S256x256, .f32⟩
  | .hbm, ⟨12, _⟩ => ⟨S256, .f32⟩
  | .hbm, ⟨13, _⟩ => ⟨S256x64, .f32⟩
  | .hbm, ⟨14, _⟩ => ⟨S64, .f32⟩
  | .hbm, ⟨15, _⟩ => ⟨S16x256, .bf16⟩
  | .hbm, ⟨16, _⟩ => ⟨S1x256, .f32⟩
  | .hbm, ⟨17, _⟩ => ⟨S256x256, .bf16⟩
  | .hbm, ⟨18, _⟩ => ⟨S1x256, .f32⟩
  | .hbm, ⟨19, _⟩ => ⟨S20x1024x256, .bf16⟩
  | .hbm, ⟨20, _⟩ => ⟨S1024x20x256, .bf16⟩
  | .hbm, ⟨21, _⟩ => ⟨S_, .f32⟩
  | .hbm, ⟨22, _⟩ => ⟨S512, .f32⟩
  | .hbm, ⟨23, _⟩ => ⟨S_, .f32⟩
  | .hbm, ⟨24, _⟩ => ⟨S256, .f32⟩
  | .hbm, ⟨25, _⟩ => ⟨S_, .f32⟩
  | .hbm, ⟨26, _⟩ => ⟨S256, .f32⟩
  | .hbm, ⟨27, _⟩ => ⟨S512, .f32⟩
  | .hbm, ⟨28, _⟩ => ⟨S256, .f32⟩
  | .hbm, ⟨29, _⟩ => ⟨S1024, .f32⟩
  | .hbm, ⟨30, _⟩ => ⟨S1024, .f32⟩
  | .hbm, ⟨31, _⟩ => ⟨S1024, .f32⟩
  | .hbm, ⟨32, _⟩ => ⟨S1x1024, .f32⟩
  | .hbm, ⟨33, _⟩ => ⟨S256x1024, .f32⟩
  | .hbm, ⟨34, _⟩ => ⟨S256x1024, .f32⟩
  | .hbm, ⟨35, _⟩ => ⟨S512x1024, .f32⟩
  | .hbm, ⟨36, _⟩ => ⟨S1x1024, .f32⟩
  | .hbm, ⟨37, _⟩ => ⟨S512x1024, .f32⟩
  | .hbm, ⟨38, _⟩ => ⟨S512x1024, .f32⟩
  | .hbm, ⟨39, _⟩ => ⟨S512x1024, .bf16⟩
  | .hbm, ⟨40, _⟩ => ⟨S256x256, .bf16⟩
  | .hbm, ⟨41, _⟩ => ⟨S1x256, .f32⟩
  | .hbm, ⟨42, _⟩ => ⟨S256x64, .bf16⟩
  | .hbm, ⟨43, _⟩ => ⟨S1x64, .f32⟩
  | .hbm, ⟨44, _⟩ => ⟨S1024x20x64, .f32⟩
  | .hbm, ⟨45, _⟩ => ⟨S8x128x20x64, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x16, .f32⟩
  | .local _ .vmem, ⟨3, _⟩ => ⟨S1x1024x16, .f32⟩
  | .local _ .vmem, ⟨4, _⟩ => ⟨S16x256, .bf16⟩
  | .local _ .vmem, ⟨5, _⟩ => ⟨S1x256, .f32⟩
  | .local _ .vmem, ⟨6, _⟩ => ⟨S256x256, .bf16⟩
  | .local _ .vmem, ⟨7, _⟩ => ⟨S1x256, .f32⟩
  | .local _ .vmem, ⟨8, _⟩ => ⟨S1x1024x256, .bf16⟩
  | .local _ .vmem, ⟨9, _⟩ => ⟨S1x1024x256, .bf16⟩
  | .local _ .vmem, ⟨10, _⟩ => ⟨S256x20x256, .bf16⟩
  | .local _ .vmem, ⟨11, _⟩ => ⟨S256x20x256, .bf16⟩
  | .local _ .vmem, ⟨12, _⟩ => ⟨S512x1024, .bf16⟩
  | .local _ .vmem, ⟨13, _⟩ => ⟨S1x1024, .f32⟩
  | .local _ .vmem, ⟨14, _⟩ => ⟨S256x256, .bf16⟩
  | .local _ .vmem, ⟨15, _⟩ => ⟨S1x256, .f32⟩
  | .local _ .vmem, ⟨16, _⟩ => ⟨S256x64, .bf16⟩
  | .local _ .vmem, ⟨17, _⟩ => ⟨S1x64, .f32⟩
  | .local _ .vmem, ⟨18, _⟩ => ⟨S256x20x64, .f32⟩
  | .local _ .vmem, ⟨19, _⟩ => ⟨S256x20x64, .f32⟩
  | .local _ .vmem, ⟨20, _⟩ => ⟨S20x256, .f32⟩
  | .local _ .vmem, ⟨21, _⟩ => ⟨S20x256, .f32⟩
  | .local _ .vmem, ⟨22, _⟩ => ⟨S256x20x256, .bf16⟩
  | _, _ => ⟨S20x1024x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_cst : Ref sig .tc := ⟨.hbm, 21, rfl⟩
abbrev main_call0_v6 : Ref sig .tc := ⟨.hbm, 22, rfl⟩
abbrev main_call0_cst_0 : Ref sig .tc := ⟨.hbm, 23, rfl⟩
abbrev main_call0_v7 : Ref sig .tc := ⟨.hbm, 24, rfl⟩
abbrev main_call0_cst_1 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_v15 : Ref sig .tc := ⟨.hbm, 33, rfl⟩
abbrev main_call0_v16 : Ref sig .tc := ⟨.hbm, 34, rfl⟩
abbrev main_call0_v17 : Ref sig .tc := ⟨.hbm, 35, rfl⟩
abbrev main_call0_v18 : Ref sig .tc := ⟨.hbm, 36, rfl⟩
abbrev main_call0_v19 : Ref sig .tc := ⟨.hbm, 37, rfl⟩
abbrev main_call0_v20 : Ref sig .tc := ⟨.hbm, 38, rfl⟩
abbrev main_call0_v21 : Ref sig .tc := ⟨.hbm, 39, rfl⟩
abbrev main_call0_v22 : Ref sig .tc := ⟨.hbm, 40, rfl⟩
abbrev main_call0_v23 : Ref sig .tc := ⟨.hbm, 41, rfl⟩
abbrev main_call0_v24 : Ref sig .tc := ⟨.hbm, 42, rfl⟩
abbrev main_call0_v25 : Ref sig .tc := ⟨.hbm, 43, rfl⟩
abbrev main_call0_v26 : Ref sig .tc := ⟨.hbm, 44, rfl⟩
abbrev main_v0 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc1_scratch0 : Ref sig .tc := ⟨.vmem, 20, rfl⟩
abbrev cc1_scratch1 : Ref sig .tc := ⟨.vmem, 21, rfl⟩
abbrev cc1_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![4], ![false]⟩

@[reducible] def k1_t1_loop : Scf.Loop 32 :=
  let c0_i32_4 : BitVec 32 := 0#32
  let c8_i32 : BitVec 32 := 8#32
  let v6 : BitVec 32 := Scalar.addi c0_i32_4 c8_i32
  let c1_i32 : BitVec 32 := 1#32
  ⟨c0_i32_4, v6, c1_i32⟩
def k1_off1 (k1_t1 : Fin k1_t1_loop.trips) (c0_i32_330 : BitVec 32) : Fin 3 → Nat :=
  let c0_i32_4 : BitVec 32 := 0#32
  let c1_i32 : BitVec 32 := 1#32
  let arg12 : BitVec 32 := Scf.iv c0_i32_4 c1_i32 k1_t1
  let c32_i32 : BitVec 32 := 32#32
  let v455 : BitVec 32 := Scalar.muli arg12 c32_i32
  let v456 : BitVec 32 := Scalar.addi v455 c0_i32_330
  let v457 : Index := Scalar.indexCast v456
  let c0_331 : Index := 0#32
  let c0_332 : Index := 0#32
  ![v457.toNat, 0, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S256x20x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x64 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S256x20x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== ReferenceIdeal.lean ====
abbrev S20x1024x16 : Shape := ⟨3, ![20, 1024, 16]⟩
abbrev S20x1024x1024 : Shape := ⟨3, ![20, 1024, 1024]⟩
abbrev S8x20x128 : Shape := ⟨3, ![8, 20, 128]⟩
abbrev S16x256 : Shape := ⟨2, ![16, 256]⟩
abbrev S256 : Shape := ⟨1, ![256]⟩
abbrev S256x256 : Shape := ⟨2, ![256, 256]⟩
abbrev S1024x256 : Shape := ⟨2, ![1024, 256]⟩
abbrev S1024 : Shape := ⟨1, ![1024]⟩
abbrev S256x64 : Shape := ⟨2, ![256, 64]⟩
abbrev S64 : Shape := ⟨1, ![64]⟩
abbrev S20x8x128 : Shape := ⟨3, ![20, 8, 128]⟩
abbrev S20x1024 : Shape := ⟨2, ![20, 1024]⟩
abbrev S_ : Shape := ⟨0, ![]⟩
abbrev S1024x1024 : Shape := ⟨2, ![1024, 1024]⟩
abbrev S20x1024x1 : Shape := ⟨3, ![20, 1024, 1]⟩
abbrev S20x1x1024 : Shape := ⟨3, ![20, 1, 1024]⟩
abbrev S20x1024x256 : Shape := ⟨3, ![20, 1024, 256]⟩
abbrev S1x256 : Shape := ⟨2, ![1, 256]⟩
abbrev S1x1x256 : Shape := ⟨3, ![1, 1, 256]⟩
abbrev S1024x20x256 : Shape := ⟨3, ![1024, 20, 256]⟩
abbrev S20x256 : Shape := ⟨2, ![20, 256]⟩
abbrev S1x20x256 : Shape := ⟨3, ![1, 20, 256]⟩
abbrev S256x1024 : Shape := ⟨2, ![256, 1024]⟩
abbrev S1x1024 : Shape := ⟨2, ![1, 1024]⟩
abbrev S8x128x20x256 : Shape := ⟨4, ![8, 128, 20, 256]⟩
abbrev S1x1x1x256 : Shape := ⟨4, ![1, 1, 1, 256]⟩
abbrev S8x128x20x64 : Shape := ⟨4, ![8, 128, 20, 64]⟩
abbrev S1x1x1x64 : Shape := ⟨4, ![1, 1, 1, 64]⟩

abbrev nBuf : Space → Nat
  | .hbm => 147
  | .vmem => 0
  | .smem => 0
  | _ => 0

abbrev hbmTy0_0 (i : Nat) : BufTy := match i % 128 with
  | 0 => ⟨S20x1024x16, .f32⟩
  | 1 => ⟨S20x1024x1024, .f32⟩
  | 2 => ⟨S8x20x128, .i1⟩
  | 3 => ⟨S16x256, .f32⟩
  | 4 => ⟨S256, .f32⟩
  | 5 => ⟨S256x256, .f32⟩
  | 6 => ⟨S256, .f32⟩
  | 7 => ⟨S1024x256, .f32⟩
  | 8 => ⟨S1024x256, .f32⟩
  | 9 => ⟨S1024, .f32⟩
  | 10 => ⟨S1024, .f32⟩
  | 11 => ⟨S256x256, .f32⟩
  | 12 => ⟨S256, .f32⟩
  | 13 => ⟨S256x64, .f32⟩
  | 14 => ⟨S64, .f32⟩
  | 15 => ⟨S20x8x128, .i1⟩
  | 16 => ⟨S20x1024, .i1⟩
  | 17 => ⟨S20x1024, .f32⟩
  | 18 => ⟨S_, .f32⟩
  | 19 => ⟨S20x1024x1024, .f32⟩
  | 20 => ⟨S20x1024x1024, .i1⟩
  | 21 => ⟨S20x1024x1024, .f32⟩
  | 22 => ⟨S1024x1024, .i32⟩
  | 23 => ⟨S1024x1024, .i32⟩
  | 24 => ⟨S_, .i32⟩
  | 25 => ⟨S1024x1024, .i32⟩
  | 26 => ⟨S1024x1024, .i32⟩
  | 27 => ⟨S1024x1024, .i1⟩
  | 28 => ⟨S_, .f32⟩
  | 29 => ⟨S_, .f32⟩
  | 30 => ⟨S1024x1024, .f32⟩
  | 31 => ⟨S20x1024x1024, .i1⟩
  | 32 => ⟨S20x1024x1024, .f32⟩
  | 33 => ⟨S20x1024x1024, .f32⟩
  | 34 => ⟨S_, .f32⟩
  | 35 => ⟨S20x1024, .f32⟩
  | 36 => ⟨S20x1024, .f32⟩
  | 37 => ⟨S20x1024x1, .f32⟩
  | 38 => ⟨S20x1024x1024, .f32⟩
  | 39 => ⟨S20x1024x1024, .f32⟩
  | 40 => ⟨S20x1x1024, .f32⟩
  | 41 => ⟨S20x1024x1024, .f32⟩
  | 42 => ⟨S20x1024x1024, .f32⟩
  | 43 => ⟨S20x1024x256, .f32⟩
  | 44 => ⟨S20x1024x256, .f32⟩
  | 45 => ⟨S1x256, .f32⟩
  | 46 => ⟨S1x1x256, .f32⟩
  | 47 => ⟨S20x1024x256, .f32⟩
  | 48 => ⟨S20x1024x256, .f32⟩
  | 49 => ⟨S_, .f32⟩
  | 50 => ⟨S20x1024x256, .f32⟩
  | 51 => ⟨S20x1024x256, .f32⟩
  | 52 => ⟨S20x1024x256, .f32⟩
  | 53 => ⟨S20x1024x256, .f32⟩
  | 54 => ⟨S1x256, .f32⟩
  | 55 => ⟨S1x1x256, .f32⟩
  | 56 => ⟨S20x1024x256, .f32⟩
  | 57 => ⟨S20x1024x256, .f32⟩
  | 58 => ⟨S20x1024x1, .f32⟩
  | 59 => ⟨S20x1024x256, .f32⟩
  | 60 => ⟨S20x1024x256, .f32⟩
  | 61 => ⟨S1024x20x256, .f32⟩
  | 62 => ⟨S_, .f32⟩
  | 63 => ⟨S20x256, .f32⟩
  | 64 => ⟨S_, .f32⟩
  | 65 => ⟨S20x256, .f32⟩
  | 66 => ⟨S_, .f32⟩
  | 67 => ⟨S1024x20x256, .f32⟩
  | 68 => ⟨S_, .i32⟩
  | 69 => ⟨S1024x20x256, .f32⟩
  | 70 => ⟨S1024x256, .f32⟩
  | 71 => ⟨S1024x256, .f32⟩
  | 72 => ⟨S1024, .f32⟩
  | 73 => ⟨S1024, .f32⟩
  | 74 => ⟨S_, .i32⟩
  | 75 => ⟨S20x256, .f32⟩
  | 76 => ⟨S20x256, .f32⟩
  | 77 => ⟨S1024x20x256, .f32⟩
  | 78 => ⟨S_, .i32⟩
  | 79 => ⟨S_, .i1⟩
  | 80 => ⟨S_, .i32⟩
  | 81 => ⟨S_, .i32⟩
  | 82 => ⟨S1x20x256, .f32⟩
  | 83 => ⟨S20x256, .f32⟩
  | 84 => ⟨S256x1024, .f32⟩
  | 85 => ⟨S20x1024, .f32⟩
  | 86 => ⟨S256x1024, .f32⟩
  | 87 => ⟨S20x1024, .f32⟩
  | 88 => ⟨S20x1024, .f32⟩
  | 89 => ⟨S1x1024, .f32⟩
  | 90 => ⟨S20x1024, .f32⟩
  | 91 => ⟨S20x1024, .f32⟩
  | 92 => ⟨S1x1024, .f32⟩
  | 93 => ⟨S20x1024, .f32⟩
  | 94 => ⟨S20x1024, .f32⟩
  | 95 => ⟨S20x256, .f32⟩
  | 96 => ⟨S20x256, .f32⟩
  | 97 => ⟨S20x256, .f32⟩
  | 98 => ⟨S20x256, .f32⟩
  | 99 => ⟨S20x256, .f32⟩
  | 100 => ⟨S20x256, .f32⟩
  | 101 => ⟨S_, .f32⟩
  | 102 => ⟨S20x256, .f32⟩
  | 103 => ⟨S20x256, .f32⟩
  | 104 => ⟨S_, .f32⟩
  | 105 => ⟨S20x256, .f32⟩
  | 106 => ⟨S20x256, .f32⟩
  | 107 => ⟨S20x256, .f32⟩
  | 108 => ⟨S20x256, .f32⟩
  | 109 => ⟨S_, .f32⟩
  | 110 => ⟨S20x256, .f32⟩
  | 111 => ⟨S20x256, .f32⟩
  | 112 => ⟨S_, .f32⟩
  | 113 => ⟨S20x256, .f32⟩
  | 114 => ⟨S20x256, .f32⟩
  | 115 => ⟨S20x256, .f32⟩
  | 116 => ⟨S20x256, .f32⟩
  | 117 => ⟨S20x256, .f32⟩
  | 118 => ⟨S_, .f32⟩
  | 119 => ⟨S20x256, .f32⟩
  | 120 => ⟨S20x256, .f32⟩
  | 121 => ⟨S_, .f32⟩
  | 122 => ⟨S20x256, .f32⟩
  | 123 => ⟨S20x256, .f32⟩
  | 124 => ⟨S20x256, .f32⟩
  | 125 => ⟨S20x256, .f32⟩
  | 126 => ⟨S20x256, .f32⟩
  | 127 => ⟨S20x256, .f32⟩
  | _ => ⟨S20x1024x16, .f32⟩

abbrev hbmTy0_1 (i : Nat) : BufTy := match i % 128 with
  | 0 => ⟨S20x256, .f32⟩
  | 1 => ⟨S1x20x256, .f32⟩
  | 2 => ⟨S_, .i32⟩
  | 3 => ⟨S_, .i32⟩
  | 4 => ⟨S1024x20x256, .f32⟩
  | 5 => ⟨S_, .i32⟩
  | 6 => ⟨S_, .i32⟩
  | 7 => ⟨S8x128x20x256, .f32⟩
  | 8 => ⟨S8x128x20x256, .f32⟩
  | 9 => ⟨S1x1x1x256, .f32⟩
  | 10 => ⟨S8x128x20x256, .f32⟩
  | 11 => ⟨S8x128x20x256, .f32⟩
  | 12 => ⟨S_, .f32⟩
  | 13 => ⟨S8x128x20x256, .f32⟩
  | 14 => ⟨S8x128x20x256, .f32⟩
  | 15 => ⟨S8x128x20x64, .f32⟩
  | 16 => ⟨S1x1x1x64, .f32⟩
  | 17 => ⟨S8x128x20x64, .f32⟩
  | 18 => ⟨S8x128x20x64, .f32⟩
  | _ => ⟨S20x1024x16, .f32⟩

abbrev hbmTy (i : Nat) : BufTy := match i / 128 with
  | 0 => hbmTy0_0 i
  | 1 => hbmTy0_1 i
  | _ => ⟨S20x1024x16, .f32⟩

abbrev bufTy : (tb : Table) → Fin (tcTables nBuf tb) → BufTy
  | .hbm, ⟨i, _⟩ => hbmTy i
  | _, _ => ⟨S20x1024x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_cst : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_v11 : Ref sig .tc := ⟨.hbm, 33, rfl⟩
abbrev main_cst_1 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_call1_cst : Ref sig .tc := ⟨.hbm, 49, rfl⟩
abbrev main_call1_v0 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_2 : Ref sig .tc := ⟨.hbm, 62, rfl⟩
abbrev main_v37 : Ref sig .tc := ⟨.hbm, 63, rfl⟩
abbrev main_cst_3 : Ref sig .tc := ⟨.hbm, 64, rfl⟩
abbrev main_v38 : Ref sig .tc := ⟨.hbm, 65, rfl⟩
abbrev main_cst_4 : Ref sig .tc := ⟨.hbm, 66, rfl⟩
abbrev main_v39 : Ref sig .tc := ⟨.hbm, 67, rfl⟩
abbrev main_c_5 : Ref sig .tc := ⟨.hbm, 68, rfl⟩
abbrev main_v40_0 : Ref sig .tc := ⟨.hbm, 69, rfl⟩
abbrev main_v40_1 : Ref sig .tc := ⟨.hbm, 70, rfl⟩
abbrev main_v40_2 : Ref sig .tc := ⟨.hbm, 71, rfl⟩
abbrev main_v40_3 : Ref sig .tc := ⟨.hbm, 72, rfl⟩
abbrev main_v40_4 : Ref sig .tc := ⟨.hbm, 73, rfl⟩
abbrev main_v40_5 : Ref sig .tc := ⟨.hbm, 74, rfl⟩
abbrev main_v40_6 : Ref sig .tc := ⟨.hbm, 75, rfl⟩
abbrev main_v40_7 : Ref sig .tc := ⟨.hbm, 76, rfl⟩
abbrev main_v40_8 : Ref sig .tc := ⟨.hbm, 77, rfl⟩
abbrev main_while0c_c_14 : Ref sig .tc := ⟨.hbm, 78, rfl⟩
abbrev main_while0c_v51 : Ref sig .tc := ⟨.hbm, 79, rfl⟩
abbrev main_while0b_call2_c : Ref sig .tc := ⟨.hbm, 80, rfl⟩
abbrev main_while0b_call2_c_0 : Ref sig .tc := ⟨.hbm, 81, rfl⟩
abbrev main_while0b_call2_v0 : Ref sig .tc := ⟨.hbm, 82, rfl⟩
abbrev main_while0b_v51 : Ref sig .tc := ⟨.hbm, 83, rfl⟩
abbrev main_while0b_v52 : Ref sig .tc := ⟨.hbm, 84, rfl⟩
abbrev main_while0b_v53 : Ref sig .tc := ⟨.hbm, 85, rfl⟩
abbrev main_while0b_v54 : Ref sig .tc := ⟨.hbm, 86, rfl⟩
abbrev main_while0b_v55 : Ref sig .tc := ⟨.hbm, 87, rfl⟩
abbrev main_while0b_v56 : Ref sig .tc := ⟨.hbm, 88, rfl⟩
abbrev main_while0b_v57 : Ref sig .tc := ⟨.hbm, 89, rfl⟩
abbrev main_while0b_v58 : Ref sig .tc := ⟨.hbm, 90, rfl⟩
abbrev main_while0b_v59 : Ref sig .tc := ⟨.hbm, 91, rfl⟩
abbrev main_while0b_v60 : Ref sig .tc := ⟨.hbm, 92, rfl⟩
abbrev main_while0b_v61 : Ref sig .tc := ⟨.hbm, 93, rfl⟩
abbrev main_while0b_v62 : Ref sig .tc := ⟨.hbm, 94, rfl⟩
abbrev main_while0b_v63 : Ref sig .tc := ⟨.hbm, 95, rfl⟩
abbrev main_while0b_v64 : Ref sig .tc := ⟨.hbm, 96, rfl⟩
abbrev main_while0b_v65 : Ref sig .tc := ⟨.hbm, 97, rfl⟩
abbrev main_while0b_v66 : Ref sig .tc := ⟨.hbm, 98, rfl⟩
abbrev main_while0b_v67 : Ref sig .tc := ⟨.hbm, 99, rfl⟩
abbrev main_while0b_v68 : Ref sig .tc := ⟨.hbm, 100, rfl⟩
abbrev main_while0b_cst_14 : Ref sig .tc := ⟨.hbm, 101, rfl⟩
abbrev main_while0b_v69 : Ref sig .tc := ⟨.hbm, 102, rfl⟩
abbrev main_while0b_v70 : Ref sig .tc := ⟨.hbm, 103, rfl⟩
abbrev main_while0b_cst_15 : Ref sig .tc := ⟨.hbm, 104, rfl⟩
abbrev main_while0b_v71 : Ref sig .tc := ⟨.hbm, 105, rfl⟩
abbrev main_while0b_v72 : Ref sig .tc := ⟨.hbm, 106, rfl⟩
abbrev main_while0b_v73 : Ref sig .tc := ⟨.hbm, 107, rfl⟩
abbrev main_while0b_v74 : Ref sig .tc := ⟨.hbm, 108, rfl⟩
abbrev main_while0b_cst_16 : Ref sig .tc := ⟨.hbm, 109, rfl⟩
abbrev main_while0b_v75 : Ref sig .tc := ⟨.hbm, 110, rfl⟩
abbrev main_while0b_v76 : Ref sig .tc := ⟨.hbm, 111, rfl⟩
abbrev main_while0b_cst_17 : Ref sig .tc := ⟨.hbm, 112, rfl⟩
abbrev main_while0b_v77 : Ref sig .tc := ⟨.hbm, 113, rfl⟩
abbrev main_while0b_v78 : Ref sig .tc := ⟨.hbm, 114, rfl⟩
abbrev main_while0b_v79 : Ref sig .tc := ⟨.hbm, 115, rfl⟩
abbrev main_while0b_v80 : Ref sig .tc := ⟨.hbm, 116, rfl⟩
abbrev main_while0b_v81 : Ref sig .tc := ⟨.hbm, 117, rfl⟩
abbrev main_while0b_cst_18 : Ref sig .tc := ⟨.hbm, 118, rfl⟩
abbrev main_while0b_v82 : Ref sig .tc := ⟨.hbm, 119, rfl⟩
abbrev main_while0b_v83 : Ref sig .tc := ⟨.hbm, 120, rfl⟩
abbrev main_while0b_cst_19 : Ref sig .tc := ⟨.hbm, 121, rfl⟩
abbrev main_while0b_v84 : Ref sig .tc := ⟨.hbm, 122, rfl⟩
abbrev main_while0b_v85 : Ref sig .tc := ⟨.hbm, 123, rfl⟩
abbrev main_while0b_v86 : Ref sig .tc := ⟨.hbm, 124, rfl⟩
abbrev main_while0b_v87 : Ref sig .tc := ⟨.hbm, 125, rfl⟩
abbrev main_while0b_v88 : Ref sig .tc := ⟨.hbm, 126, rfl⟩
abbrev main_while0b_v89 : Ref sig .tc := ⟨.hbm, 127, rfl⟩
abbrev main_while0b_v90 : Ref sig .tc := ⟨.hbm, 128, rfl⟩
abbrev main_while0b_call3_v0 : Ref sig .tc := ⟨.hbm, 129, rfl⟩
abbrev main_while0b_call3_c : Ref sig .tc := ⟨.hbm, 130, rfl⟩
abbrev main_while0b_call3_c_0 : Ref sig .tc := ⟨.hbm, 131, rfl⟩
abbrev main_while0b_v91 : Ref sig .tc := ⟨.hbm, 132, rfl⟩
abbrev main_while0b_c_20 : Ref sig .tc := ⟨.hbm, 133, rfl⟩
abbrev main_while0b_v92 : Ref sig .tc := ⟨.hbm, 134, rfl⟩
abbrev main_v41 : Ref sig .tc := ⟨.hbm, 135, rfl⟩
abbrev main_v42 : Ref sig .tc := ⟨.hbm, 136, rfl⟩
abbrev main_v43 : Ref sig .tc := ⟨.hbm, 137, rfl⟩
abbrev main_v44 : Ref sig .tc := ⟨.hbm, 138, rfl⟩
abbrev main_v45 : Ref sig .tc := ⟨.hbm, 139, rfl⟩
abbrev main_call4_cst : Ref sig .tc := ⟨.hbm, 140, rfl⟩
abbrev main_call4_v0 : Ref sig .tc := ⟨.hbm, 141, rfl⟩
abbrev main_v46 : Ref sig .tc := ⟨.hbm, 142, rfl⟩
abbrev main_v47 : Ref sig .tc := ⟨.hbm, 143, rfl⟩
abbrev main_v48 : Ref sig .tc := ⟨.hbm, 144, rfl⟩
abbrev main_v49 : Ref sig .tc := ⟨.hbm, 145, rfl⟩
abbrev main_v50 : Ref sig .tc := ⟨.hbm, 146, rfl⟩

abbrev nD : Nat := 1
abbrev τ : Topo := Topo.v7x

variable {F : FTy → Type} [FloatOps F]

abbrev main_while0_count : Scf.Loop 32 := ⟨0#32, 1024#32, 1#32⟩
-- ==== Proof.GcnRegion.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-!
# The first call: one graph's convolution per grid point

Each of the 20 points reads one graph's adjacency block and features and writes that graph's block of the result
(`out0_6`). Stated at whatever the buffers hold when the call is reached (`V`).
-/

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers as the call finds them
variable (V : (c : Dev nD) → (b : Ref sig .tc) → Buf (Elt F) ((c : Thread nD τ).loc b))

/-- Window `w`'s block at point `t`, read off its array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input 0's buffer holds its block when the body runs. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input 1's buffer holds its block when the body runs. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input 2's buffer holds its block when the body runs. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input 3's buffer holds its block when the body runs. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input 4's buffer holds its block when the body runs. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input 5's buffer holds its block when the body runs. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1x1024x1024 := Rect.unit (s := S1x1024x1024) ![0, 0, 0] S1x1024x1024.size inb_S1x1024x1024_S1x1024x1024_0_0_0
abbrev r0_1 : Rect S1x1024x16 := Rect.unit (s := S1x1024x16) ![0, 0, 0] S1x1024x16.size inb_S1x1024x16_S1x1024x16_0_0_0
abbrev r0_2 : Rect S16x256 := Rect.unit (s := S16x256) ![0, 0] S16x256.size inb_S16x256_S16x256_0_0
abbrev r0_3 : Rect S1x256 := Rect.unit (s := S1x256) ![0, 0] S1x256.size inb_S1x256_S1x256_0_0
abbrev r0_4 : Rect S256x256 := Rect.unit (s := S256x256) ![0, 0] S256x256.size inb_S256x256_S256x256_0_0
abbrev r0_5 : Rect S1x1024x256 := Rect.unit (s := S1x1024x256) ![0, 0, 0] S1x1024x256.size inb_S1x1024x256_S1x1024x256_0_0_0

/-- One graph's convolution as the body computes it from its six input blocks. -/
def out0_6 (x0 : Vec F S1x1024x1024 .f32) (x1 : Vec F S1x1024x16 .f32) (x2 : Vec F S16x256 .bf16) (x3 : Vec F S1x256 .f32) (x4 : Vec F S256x256 .bf16) (x5 : Vec F S1x256 .f32) : Vec F S1x1024x256 .bf16 :=
  View.canon [⟨r0_5, k0_pay1 (k0_pay3 (View.ld x0 r0_0)) (k0_pay4 (View.ld x0 r0_0)) (k0_pay5 (View.ld x0 r0_0) (View.ld x1 r0_1) (View.ld x2 r0_2) (View.ld x3 r0_3) (View.ld x4 r0_4)) (View.ld x5 r0_3)⟩]

theorem cover0_6 (p0 : Vec F S1x1024x256 .bf16) (y : S1x1024x256.Idx) :
    ∃ pc ∈ ([⟨r0_5, p0⟩] : List (View.Piece (Elt F) S1x1024x256 .bf16)), y ∈ pc.1.set :=
  View.cover_of_tiled [⟨r0_5, p0⟩] S1x1024x256.size (by rfl) y

set_option maxHeartbeats 1000000 in
/-- The body's triple: the inputs unchanged, the output at `out0_6` of them. -/
theorem sound_kernel0 (c : Dev nD) (E : Set ℕ) (i : grid0.Coords) (arg1 : Memref sig .tc .vmem S1x1024x1024 .f32) (harg1 : arg1.IsWhole) (arg2 : Memref sig .tc .vmem S1x1024x16 .f32) (harg2 : arg2.IsWhole) (arg3 : Memref sig .tc .vmem S16x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S1x1024x256 .bf16) (harg7 : arg7.IsWhole)
    (x0 : Vec F S1x1024x1024 .f32) (x1 : Vec F S1x1024x16 .f32) (x2 : Vec F S16x256 .bf16) (x3 : Vec F S1x256 .f32) (x4 : Vec F S256x256 .bf16) (x5 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0__gcn_body i arg1 harg1 arg2 harg2 arg3 harg3 arg4 harg4 arg5 harg5 arg6 harg6 arg7 harg7) K := by
  simp only [cc0__gcn_body_eq_skeleton]; unfold cc0__gcn_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-- The pipeline's proof data: every input's buffer at its block, the output's at `out0_6` of the blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is entered with at a point. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- What it leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row0 (t : Fin cfg0.N) :
    defs₀ (F := F) .tc cfg0.body (cfg0.bodyArgs t (cfg0.slots t)) = bodyAt0 t := by
  unfold defs₀; rw [Defs.onTc_tc]

/-- The body's obligation at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Run

end
-- ==== Proof.Lstm.lean ====
module

public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.Pipeline.Regions

/-!
# The recurrent loop of the second call

One grid point of the second call runs over the 256 rows (nodes) of its block, 8 trips of 32 unrolled steps.
Here one step is named (`cell`), the state after any number of steps is the iterate `stAt`, and the loop is shown to
leave that state and to have written every row's hidden state into the history buffer (`pieces`).
Everything holds at any number format `F`.
-/

@[expose] public section

set_option maxRecDepth 8192

noncomputable section

namespace Cert.KernelIdeal.Lstm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What the loop carries: the hidden state in bf16 and the cell state. -/
abbrev St (F : FTy → Type) [FloatOps F] := FVec F S20x256 .bf16 × Vec F S20x256 .f32

/-- The rows of the stacked weights that multiply the input, -/
abbrev rIn : Rect S512x1024 := Rect.unit (s := S512x1024) ![0, 0] S256x1024.size inb_S512x1024_S256x1024_0_0
/-- those that multiply the hidden state, -/
abbrev rHid : Rect S512x1024 := Rect.unit (s := S512x1024) ![256, 0] S256x1024.size inb_S512x1024_S256x1024_256_0
/-- and the whole bias row. -/
abbrev rBias : Rect S1x1024 := Rect.unit (s := S1x1024) ![0, 0] S1x1024.size inb_S1x1024_S1x1024_0_0

/-- One step of the recurrence on the row `xr`. -/
def cell (x2 : Vec F S512x1024 .bf16) (x3 : Vec F S1x1024 .f32) (xr : Vec F S1x20x256 .bf16) (s : St F) : St F :=
  (k1_pay5 (k1_pay4 s.1 s.2 xr (View.ld x2 rIn) (View.ld x3 rBias) (View.ld x2 rHid)),
   k1_pay3 s.1 s.2 xr (View.ld x2 rIn) (View.ld x3 rBias) (View.ld x2 rHid))

theorem row_inb (n : ℕ) : ∀ a, (![n % 256, 0, 0] : Fin 3 → ℕ) a + S1x20x256.size a ≤ S256x20x256.size a := by
  intro a
  have h : n % 256 < 256 := Nat.mod_lt _ (by decide)
  fin_cases a
  · show n % 256 + 1 ≤ 256; omega
  · show 0 + 20 ≤ 20; omega
  · show 0 + 256 ≤ 256; omega

/-- Row `n` of a block. -/
abbrev rRow (n : ℕ) : Rect S256x20x256 := Rect.unit (s := S256x20x256) ![n % 256, 0, 0] S1x20x256.size (row_inb n)

/-- The state after `n` steps from `s`, on the rows of the block `x1`. -/
def stAt (x1 : Vec F S256x20x256 .bf16) (x2 : Vec F S512x1024 .bf16) (x3 : Vec F S1x1024 .f32) (s : St F) : ℕ → St F
  | 0 => s
  | n + 1 => cell x2 x3 (View.ld x1 (rRow n)) (stAt x1 x2 x3 s n)

/-- A hidden state as a row of the history. -/
def asRow (h : FVec F S20x256 .bf16) : FVec F S1x20x256 .bf16 := shapeCast S1x20x256 h shapeCasts_S20x256_S1x20x256

/-- What the first `n` steps write into the history, last first. -/
def pieces (x1 : Vec F S256x20x256 .bf16) (x2 : Vec F S512x1024 .bf16) (x3 : Vec F S1x1024 .f32) (s : St F) :
    ℕ → List (View.Piece (Elt F) S256x20x256 .bf16)
  | 0 => []
  | n + 1 => ⟨rRow n, asRow (stAt x1 x2 x3 s (n + 1)).1⟩ :: pieces x1 x2 x3 s n

/-! ## One trip -/

/-- Row `j` of trip `k`, as the trip addresses it. -/
abbrev rTrip (k : Fin k1_t1_loop.trips) (j : ℕ) : Rect S256x20x256 :=
  Rect.unit (s := S256x20x256) (k1_off1 k (BitVec.ofNat 32 (Fin.ofNat 32 j).val)) S1x20x256.size (k1_off1_inb k (Fin.ofNat 32 j))

/-- The state after `j` steps of trip `k`, -/
def tripSt (x1 : Vec F S256x20x256 .bf16) (x2 : Vec F S512x1024 .bf16) (x3 : Vec F S1x1024 .f32) (k : Fin k1_t1_loop.trips)
    (s : St F) : ℕ → St F
  | 0 => s
  | j + 1 => cell x2 x3 (View.ld x1 (rTrip k j)) (tripSt x1 x2 x3 k s j)

/-- and what they write. -/
def tripPieces (x1 : Vec F S256x20x256 .bf16) (x2 : Vec F S512x1024 .bf16) (x3 : Vec F S1x1024 .f32) (k : Fin k1_t1_loop.trips)
    (s : St F) : ℕ → List (View.Piece (Elt F) S256x20x256 .bf16)
  | 0 => []
  | j + 1 => ⟨rTrip k j, asRow (tripSt x1 x2 x3 k s (j + 1)).1⟩ :: tripPieces x1 x2 x3 k s j

theorem rTrip_off (k : Fin k1_t1_loop.trips) (j : ℕ) (hj : j < 32) :
    k1_off1 k (BitVec.ofNat 32 (Fin.ofNat 32 j).val) = ![(32 * k.val + j) % 256, 0, 0] := by
  have hk : k.val < 8 := Nat.lt_of_lt_of_le k.isLt k1_t1_abs.2.1
  have hv : (Fin.ofNat 32 j).val = j := Nat.mod_eq_of_lt hj
  rw [k1_off1_eq k (Fin.ofNat 32 j), hv, Nat.mod_eq_of_lt (by omega : 32 * k.val + j < 256)]

theorem ld_congr (x1 : Vec F S256x20x256 .bf16) {o o' : Fin 3 → ℕ} (h : ∀ a, o a + S1x20x256.size a ≤ S256x20x256.size a)
    (h' : ∀ a, o' a + S1x20x256.size a ≤ S256x20x256.size a) (e : o = o') :
    (View.ld x1 (Rect.unit (s := S256x20x256) o S1x20x256.size h) : Vec F S1x20x256 .bf16)
      = View.ld x1 (Rect.unit (s := S256x20x256) o' S1x20x256.size h') := by subst e; rfl

theorem piece_congr (w : Vec F S1x20x256 .bf16) {o o' : Fin 3 → ℕ} (h : ∀ a, o a + S1x20x256.size a ≤ S256x20x256.size a)
    (h' : ∀ a, o' a + S1x20x256.size a ≤ S256x20x256.size a) (e : o = o') :
    (⟨Rect.unit (s := S256x20x256) o S1x20x256.size h, w⟩ : View.Piece (Elt F) S256x20x256 .bf16)
      = ⟨Rect.unit (s := S256x20x256) o' S1x20x256.size h', w⟩ := by subst e; rfl

theorem tripSt_eq (x1 : Vec F S256x20x256 .bf16) (x2 : Vec F S512x1024 .bf16) (x3 : Vec F S1x1024 .f32) (k : Fin k1_t1_loop.trips)
    (s : St F) : ∀ j, j ≤ 32 → tripSt x1 x2 x3 k (stAt x1 x2 x3 s (32 * k.val)) j = stAt x1 x2 x3 s (32 * k.val + j)
  | 0, _ => rfl
  | j + 1, h => by
    have ih := tripSt_eq x1 x2 x3 k s j (by omega)
    unfold tripSt
    rw [ih]
    exact congrArg (fun r => cell x2 x3 r (stAt x1 x2 x3 s (32 * k.val + j)))
      (ld_congr x1 (k1_off1_inb k (Fin.ofNat 32 j)) (row_inb (32 * k.val + j)) (rTrip_off k j (by omega)))

theorem tripPieces_eq (x1 : Vec F S256x20x256 .bf16) (x2 : Vec F S512x1024 .bf16) (x3 : Vec F S1x1024 .f32) (k : Fin k1_t1_loop.trips)
    (s : St F) : ∀ j, j ≤ 32 → tripPieces x1 x2 x3 k (stAt x1 x2 x3 s (32 * k.val)) j ++ pieces x1 x2 x3 s (32 * k.val)
      = pieces x1 x2 x3 s (32 * k.val + j)
  | 0, _ => rfl
  | j + 1, h => by
    have ih := tripPieces_eq x1 x2 x3 k s j (by omega)
    unfold tripPieces
    rw [List.cons_append, ih, tripSt_eq x1 x2 x3 k s (j + 1) h]
    exact congrArg (· :: pieces x1 x2 x3 s (32 * k.val + j))
      (piece_congr (asRow (stAt x1 x2 x3 s (32 * k.val + j + 1)).1) (k1_off1_inb k (Fin.ofNat 32 j)) (row_inb (32 * k.val + j))
        (rTrip_off k j (by omega)))

/-- What one trip uses: the block, the weights and the bias read, the history written. -/
abbrev Owns (c : Dev nD) (arg1 : Memref sig .tc .vmem S256x20x256 .bf16) (arg2 : Memref sig .tc .vmem S512x1024 .bf16)
    (arg3 : Memref sig .tc .vmem S1x1024 .f32) (arg11 : Memref sig .tc .vmem S256x20x256 .bf16)
    (f1 : BufTy.Contents (Elt F) arg1.view.ty) (f2 : BufTy.Contents (Elt F) arg2.view.ty)
    (f3 : BufTy.Contents (Elt F) arg3.view.ty) (f11 : BufTy.Contents (Elt F) arg11.view.ty) : sProp 𝕄 :=
  iprop((arg1.view.loc (c : Thread nD τ) ↦[arg1.view.set]{fullShare} f1) ∗ (arg2.view.loc (c : Thread nD τ) ↦[arg2.view.set]{fullShare} f2)
    ∗ (arg3.view.loc (c : Thread nD τ) ↦[arg3.view.set]{fullShare} f3) ∗ (arg11.view.loc (c : Thread nD τ) ↦[arg11.view.set]{fullShare} f11))

set_option maxHeartbeats 4000000 in
/-- One trip from the state `s`: it yields the state after 32 steps and has written the 32 rows. -/
theorem trip (c : Dev nD) (E : Set ℕ) (i : grid1.Coords) (arg1 : Memref sig .tc .vmem S256x20x256 .bf16) (harg1 : arg1.IsWhole) (arg2 : Memref sig .tc .vmem S512x1024 .bf16) (harg2 : arg2.IsWhole) (arg3 : Memref sig .tc .vmem S1x1024 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x64 .bf16) (harg6 : arg6.IsWhole) (arg7 : Memref sig .tc .vmem S1x64 .f32) (harg7 : arg7.IsWhole) (arg8 : Memref sig .tc .vmem S256x20x64 .f32) (harg8 : arg8.IsWhole) (arg9 : Memref sig .tc .vmem S20x256 .f32) (harg9 : arg9.IsWhole) (arg10 : Memref sig .tc .vmem S20x256 .f32) (harg10 : arg10.IsWhole) (arg11 : Memref sig .tc .vmem S256x20x256 .bf16) (harg11 : arg11.IsWhole)
    (f1 : BufTy.Contents (Elt F) arg1.view.ty) (f2 : BufTy.Contents (Elt F) arg2.view.ty)
    (f3 : BufTy.Contents (Elt F) arg3.view.ty) (f11 : BufTy.Contents (Elt F) arg11.view.ty) (k : Fin k1_t1_loop.trips) (s : St F) :
    Owns (F := F) c arg1 arg2 arg3 arg11 f1 f2 f3 f11
      ⊢ wp frame (wpE (defs₀ (F := F)) Variants.none (c : Thread nD τ) none) E (k1_t1_body (F := F) i arg1 harg1 arg2 harg2 arg3 harg3 arg4 harg4 arg5 harg5 arg6 harg6 arg7 harg7 arg8 harg8 arg9 harg9 arg10 harg10 arg11 harg11 k s)
          (fun y => iprop(⌜y = tripSt (arg1.view.read (Elt F) f1) (arg2.view.read (Elt F) f2) (arg3.view.read (Elt F) f3) k s 32⌝
            ∗ Owns (F := F) c arg1 arg2 arg3 arg11 f1 f2 f3 (arg11.view.writes (Elt F) f11
                (tripPieces (arg1.view.read (Elt F) f1) (arg2.view.read (Elt F) f2) (arg3.view.read (Elt F) f3) k s 32)))) := by
  have hk : k.val < 8 := Nat.lt_of_lt_of_le k.isLt k1_t1_abs.2.1
  unfold k1_t1_body
  iintro ⟨H1, H2, H3, H11⟩
  sl_exec
  sl_step
  isplitr
  · ipureintro
    chain_rfl
  isplitl [H1]; · iexact H1
  isplitl [H2]; · iexact H2
  isplitl [H3]; · iexact H3
  have e : ∀ L L' : List (View.Piece (Elt F) S256x20x256 .bf16), L = L' →
      (arg11.view.loc (c : Thread nD τ) ↦[arg11.view.set]{fullShare} arg11.view.writes (Elt F) f11 L : sProp 𝕄)
        ⊢ (arg11.view.loc (c : Thread nD τ) ↦[arg11.view.set]{fullShare} arg11.view.writes (Elt F) f11 L') := by
    intro L L' h; subst h; exact .rfl
  iapply (e _ _ ?_)
  · chain_rfl
  · iexact H11

/-! ## The loop -/

/-- Before trip `k` the loop carries the state after `32 k` steps and has written the rows before `32 k`. -/
abbrev inv (c : Dev nD) (arg1 : Memref sig .tc .vmem S256x20x256 .bf16) (arg2 : Memref sig .tc .vmem S512x1024 .bf16)
    (arg3 : Memref sig .tc .vmem S1x1024 .f32) (arg11 : Memref sig .tc .vmem S256x20x256 .bf16)
    (f1 : BufTy.Contents (Elt F) arg1.view.ty) (f2 : BufTy.Contents (Elt F) arg2.view.ty)
    (f3 : BufTy.Contents (Elt F) arg3.view.ty) (g : BufTy.Contents (Elt F) arg11.view.ty) (init : St F) (k : ℕ) (s : St F) : sProp 𝕄 :=
  iprop((arg1.view.loc (c : Thread nD τ) ↦[arg1.view.set]{fullShare} f1) ∗ (arg2.view.loc (c : Thread nD τ) ↦[arg2.view.set]{fullShare} f2)
    ∗ (arg3.view.loc (c : Thread nD τ) ↦[arg3.view.set]{fullShare} f3)
    ∗ (∃ f, (arg11.view.loc (c : Thread nD τ) ↦[arg11.view.set]{fullShare} f)
      ∗ ⌜f = arg11.view.writes (Elt F) g (pieces (arg1.view.read (Elt F) f1) (arg2.view.read (Elt F) f2) (arg3.view.read (Elt F) f3) init (32 * k))⌝)
    ∗ ⌜s = stAt (arg1.view.read (Elt F) f1) (arg2.view.read (Elt F) f2) (arg3.view.read (Elt F) f3) init (32 * k)⌝)

set_option warn.classDefReducibility false in
/-- The loop by this invariant. -/
@[sl_loop] def loop (c : Dev nD) (E : Set ℕ) (i : grid1.Coords) (arg1 : Memref sig .tc .vmem S256x20x256 .bf16) (harg1 : arg1.IsWhole) (arg2 : Memref sig .tc .vmem S512x1024 .bf16) (harg2 : arg2.IsWhole) (arg3 : Memref sig .tc .vmem S1x1024 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x64 .bf16) (harg6 : arg6.IsWhole) (arg7 : Memref sig .tc .vmem S1x64 .f32) (harg7 : arg7.IsWhole) (arg8 : Memref sig .tc .vmem S256x20x64 .f32) (harg8 : arg8.IsWhole) (arg9 : Memref sig .tc .vmem S20x256 .f32) (harg9 : arg9.IsWhole) (arg10 : Memref sig .tc .vmem S20x256 .f32) (harg10 : arg10.IsWhole) (arg11 : Memref sig .tc .vmem S256x20x256 .bf16) (harg11 : arg11.IsWhole)
    (f1 : BufTy.Contents (Elt F) arg1.view.ty) (f2 : BufTy.Contents (Elt F) arg2.view.ty)
    (f3 : BufTy.Contents (Elt F) arg3.view.ty) (g : BufTy.Contents (Elt F) arg11.view.ty) (init : St F) :
    Idealize.ShloMosaic.LoopInv (M := 𝕄) Idealize.ShloMosaic.frame (wpE (defs₀ (F := F)) Variants.none (c : Thread nD τ) none) E
      k1_t1_loop.lb k1_t1_loop.ub k1_t1_loop.st k1_t1_ok init (k1_t1_body (F := F) i arg1 harg1 arg2 harg2 arg3 harg3 arg4 harg4 arg5 harg5 arg6 harg6 arg7 harg7 arg8 harg8 arg9 harg9 arg10 harg10 arg11 harg11) where
  inv := inv (F := F) c arg1 arg2 arg3 arg11 f1 f2 f3 g init
  step k s := by
    iintro ⟨H1, H2, H3, ⟨%f, H11, %hf⟩, %hs⟩
    subst hs
    iapply (wp_wand_r Idealize.ShloMosaic.frame (wpE (defs₀ (F := F)) Variants.none (c : Thread nD τ) none) E)
    isplitl [H1 H2 H3 H11]
    · iapply (trip (F := F) c E i arg1 harg1 arg2 harg2 arg3 harg3 arg4 harg4 arg5 harg5 arg6 harg6 arg7 harg7 arg8 harg8 arg9 harg9 arg10 harg10 arg11 harg11 f1 f2 f3 f k _)
      isplitl [H1]; · iexact H1
      isplitl [H2]; · iexact H2
      isplitl [H3]; · iexact H3
      iexact H11
    · iintro %y ⟨%hy, H1, H2, H3, H11⟩
      isplitl [H1]; · iexact H1
      isplitl [H2]; · iexact H2
      isplitl [H3]; · iexact H3
      have e32 : 32 * (k.val + 1) = 32 * k.val + 32 := by omega
      rw [e32]
      isplitl [H11]
      · iexists _; isplitl [H11]; · iexact H11
        ipureintro
        rw [hf, ← View.writes_append, tripPieces_eq _ _ _ k init 32 (Nat.le_refl _)]
      ipureintro
      rw [hy, tripSt_eq _ _ _ k init 32 (Nat.le_refl _)]

end Cert.KernelIdeal.Lstm

end
-- ==== Proof.LstmPoint.lean ====
module

public import proofs.«01_k».proof.Proof.Lstm

/-!
# One grid point of the second call

The state a point leaves (`leave`) from the one it is entered with, the history of hidden states (`hist`), the block
of the result (`outBlk`: the two dense layers applied to each of the 20 time slices of the history), and the triple of
the whole body (`body_triple`). Everything holds at any number format `F`.
-/

@[expose] public section

set_option maxRecDepth 16384

noncomputable section

namespace Cert.KernelIdeal.Lstm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The state kept between points: hidden and cell, both in f32. -/
abbrev Kept (F : FTy → Type) [FloatOps F] := Vec F S20x256 .f32 × Vec F S20x256 .f32

/-- The condition under which a point resets the kept state: it is the first. -/
abbrev isFirst (i : grid1.Coords) : Prop :=
  Scalar.cmpi .ne (Scalar.extui (Scalar.cmpi .eq (BitVec.ofNat 32 (i 0).val) 0#32) : BitVec 32) 0#32 = 1#1

/-- The whole kept array, and the whole weight and bias arrays of the dense layers. -/
abbrev rKeep : Rect S20x256 := Rect.unit (s := S20x256) ![0, 0] S20x256.size inb_S20x256_S20x256_0_0
abbrev rW4 : Rect S256x256 := Rect.unit (s := S256x256) ![0, 0] S256x256.size inb_S256x256_S256x256_0_0
abbrev rW5 : Rect S1x256 := Rect.unit (s := S1x256) ![0, 0] S1x256.size inb_S1x256_S1x256_0_0
abbrev rW6 : Rect S256x64 := Rect.unit (s := S256x64) ![0, 0] S256x64.size inb_S256x64_S256x64_0_0
abbrev rW7 : Rect S1x64 := Rect.unit (s := S1x64) ![0, 0] S1x64.size inb_S1x64_S1x64_0_0

/-- The kept state as the recurrence starts: zero at the first point. -/
def start (i : grid1.Coords) (z : Kept F) : Kept F :=
  if isFirst i then (View.ld (View.canon [⟨rKeep, k1_pay202⟩]) rKeep, View.ld (View.canon [⟨rKeep, k1_pay203⟩]) rKeep)
  else (View.ld z.1 rKeep, View.ld z.2 rKeep)

/-- The loop's initial state. -/
def enter (i : grid1.Coords) (z : Kept F) : St F := (k1_pay204 (start i z).1, (start i z).2)

/-- The kept state after the loop has run from `s`. -/
def leaveFrom (x1 : Vec F S256x20x256 .bf16) (x2 : Vec F S512x1024 .bf16) (x3 : Vec F S1x1024 .f32) (s : St F) : Kept F :=
  (k1_pay208 (stAt x1 x2 x3 s 256).1, k1_pay209 (stAt x1 x2 x3 s 256).2)

/-- The history after the loop has run from `s`: every row's hidden state. -/
def histFrom (x1 : Vec F S256x20x256 .bf16) (x2 : Vec F S512x1024 .bf16) (x3 : Vec F S1x1024 .f32) (s : St F) :
    Vec F S256x20x256 .bf16 := View.canon (pieces x1 x2 x3 s 256)

theorem slice_inb (n : ℕ) : ∀ a, (![0, n % 20, 0] : Fin 3 → ℕ) a + S256x1x256.size a ≤ S256x20x256.size a := by
  intro a; fin_cases a
  · show 0 + 256 ≤ 256; omega
  · show n % 20 + 1 ≤ 20; omega
  · show 0 + 256 ≤ 256; omega

theorem out_inb (n : ℕ) : ∀ a, (![0, n % 20, 0] : Fin 3 → ℕ) a + S256x1x64.size a ≤ S256x20x64.size a := by
  intro a; fin_cases a
  · show 0 + 256 ≤ 256; omega
  · show n % 20 + 1 ≤ 20; omega
  · show 0 + 64 ≤ 64; omega

/-- Time slice `n` of the history. -/
abbrev rSlice (n : ℕ) : Rect S256x20x256 := Rect.unit (s := S256x20x256) ![0, n % 20, 0] S256x1x256.size (slice_inb n)

/-- Time slice `n` of the result's block. -/
abbrev rOut (n : ℕ) : Rect S256x20x64 := Rect.unit (s := S256x20x64) ![0, n % 20, 0] S256x1x64.size (out_inb n)

/-- The two dense layers on one slice. -/
def dense (h : Vec F S256x1x256 .bf16) (x4 : Vec F S256x256 .bf16) (x5 : Vec F S1x256 .f32) (x6 : Vec F S256x64 .bf16) (x7 : Vec F S1x64 .f32) :
    Vec F S256x1x64 .f32 :=
  k1_pay212 h (View.ld x4 rW4) (View.ld x5 rW5) (View.ld x6 rW6) (View.ld x7 rW7)

/-- The first `n` slices of the result as they are written, the last first. -/
def outPieces (h : ℕ → Vec F S256x1x256 .bf16) (x4 : Vec F S256x256 .bf16) (x5 : Vec F S1x256 .f32) (x6 : Vec F S256x64 .bf16)
    (x7 : Vec F S1x64 .f32) : ℕ → List (View.Piece (Elt F) S256x20x64 .f32)
  | 0 => []
  | n + 1 => ⟨rOut n, dense (h n) x4 x5 x6 x7⟩ :: outPieces h x4 x5 x6 x7 n

/-- The result's block, from a history. -/
def outOf (H : Vec F S256x20x256 .bf16) (x4 : Vec F S256x256 .bf16) (x5 : Vec F S1x256 .f32) (x6 : Vec F S256x64 .bf16)
    (x7 : Vec F S1x64 .f32) : Vec F S256x20x64 .f32 :=
  View.canon (outPieces (fun n => View.ld H (rSlice n)) x4 x5 x6 x7 20)

/-- The kept state a point leaves. -/
def leave (i : grid1.Coords) (x1 : Vec F S256x20x256 .bf16) (x2 : Vec F S512x1024 .bf16) (x3 : Vec F S1x1024 .f32) (z : Kept F) : Kept F :=
  leaveFrom x1 x2 x3 (enter i z)

/-- The block of the result a point writes. -/
def outBlk (i : grid1.Coords) (x1 : Vec F S256x20x256 .bf16) (x2 : Vec F S512x1024 .bf16) (x3 : Vec F S1x1024 .f32) (x4 : Vec F S256x256 .bf16) (x5 : Vec F S1x256 .f32) (x6 : Vec F S256x64 .bf16) (x7 : Vec F S1x64 .f32) (z : Kept F) : Vec F S256x20x64 .f32 :=
  outOf (histFrom x1 x2 x3 (enter i z)) x4 x5 x6 x7

theorem keep_idx (y : S20x256.Idx) : rKeep.emb y = y := by
  funext a
  apply Fin.ext
  fin_cases a <;> simp [Rect.emb, Rect.unit]

/-- A write of the whole kept array decides it. -/
theorem canon_keep (w : Vec F S20x256 .f32) (L : List (View.Piece (Elt F) S20x256 .f32)) :
    View.canon (⟨rKeep, w⟩ :: L) = w := by
  funext y
  have h := View.canon_cons_emb rKeep w L y
  rwa [keep_idx] at h

theorem keep_cover (w : Vec F S20x256 .f32) (L : List (View.Piece (Elt F) S20x256 .f32)) (y : S20x256.Idx) :
    ∃ pc ∈ ((⟨rKeep, w⟩ :: L) : List (View.Piece (Elt F) S20x256 .f32)), y ∈ pc.1.set := by
  refine ⟨_, List.mem_cons_self, ?_⟩
  obtain ⟨pc, hp, hy⟩ := View.cover_of_tiled ([⟨rKeep, w⟩] : List (View.Piece (Elt F) S20x256 .f32)) S20x256.size (by rfl) y
  rw [List.mem_singleton] at hp
  subst hp
  exact hy

theorem out_cover (h : ℕ → Vec F S256x1x256 .bf16) (x4 : Vec F S256x256 .bf16) (x5 : Vec F S1x256 .f32) (x6 : Vec F S256x64 .bf16)
    (x7 : Vec F S1x64 .f32) (y : S256x20x64.Idx) :
    ∃ pc ∈ outPieces h x4 x5 x6 x7 20, y ∈ pc.1.set :=
  View.cover_of_tiled (outPieces h x4 x5 x6 x7 20) S256x1x64.size (by rfl) y

end Cert.KernelIdeal.Lstm

end
-- ==== Proof.LstmLater.lean ====
module

public import proofs.«01_k».proof.Proof.LstmPoint

/-!
# The later grid points of the second call

The triple of the body where the point is not the first: the loop starts from the state the point before it left
(`body_later`).
-/

@[expose] public section

set_option maxRecDepth 16384

noncomputable section

namespace Cert.KernelIdeal.Lstm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The result's slices, read back. -/
theorem read_out {arg8 : Memref sig .tc .vmem S256x20x64 .f32} (f8 : arg8.view.ty.Contents (Elt F)) (h : ℕ → Vec F S256x1x256 .bf16) (H : Vec F S256x20x256 .bf16) (x4 : Vec F S256x256 .bf16) (x5 : Vec F S1x256 .f32)
    (x6 : Vec F S256x64 .bf16) (x7 : Vec F S1x64 .f32) (hh : ∀ n, h n = View.ld H (rSlice n)) :
    arg8.view.read (Elt F) (arg8.view.writes (Elt F) f8 (outPieces h x4 x5 x6 x7 20))
      = View.canon (outPieces (fun n => View.ld H (rSlice n)) x4 x5 x6 x7 20) := by
  rw [View.read_writes_eq_canon _ _ _ (out_cover h x4 x5 x6 x7), show h = fun n => View.ld H (rSlice n) from funext hh]

set_option maxHeartbeats 8000000 in
theorem body_later (c : Dev nD) (E : Set ℕ) (i : grid1.Coords) (arg1 : Memref sig .tc .vmem S256x20x256 .bf16) (harg1 : arg1.IsWhole) (arg2 : Memref sig .tc .vmem S512x1024 .bf16) (harg2 : arg2.IsWhole) (arg3 : Memref sig .tc .vmem S1x1024 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x64 .bf16) (harg6 : arg6.IsWhole) (arg7 : Memref sig .tc .vmem S1x64 .f32) (harg7 : arg7.IsWhole) (arg8 : Memref sig .tc .vmem S256x20x64 .f32) (harg8 : arg8.IsWhole) (arg9 : Memref sig .tc .vmem S20x256 .f32) (harg9 : arg9.IsWhole) (arg10 : Memref sig .tc .vmem S20x256 .f32) (harg10 : arg10.IsWhole) (arg11 : Memref sig .tc .vmem S256x20x256 .bf16) (harg11 : arg11.IsWhole)
    (x1 : Vec F S256x20x256 .bf16) (x2 : Vec F S512x1024 .bf16) (x3 : Vec F S1x1024 .f32) (x4 : Vec F S256x256 .bf16) (x5 : Vec F S1x256 .f32) (x6 : Vec F S256x64 .bf16) (x7 : Vec F S1x64 .f32) (z : Kept F) (hi : ¬ isFirst i) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ (∃ d, owns (c : Thread nD τ) arg8 fullShare d)
        ∗ owns (c : Thread nD τ) arg9 fullShare z.1 ∗ owns (c : Thread nD τ) arg10 fullShare z.2 ∗ (∃ d, owns (c : Thread nD τ) arg11 fullShare d)
        ∗ (iprop(owns (c : Thread nD τ) arg1 fullShare x1 ∗ owns (c : Thread nD τ) arg2 fullShare x2 ∗ owns (c : Thread nD τ) arg3 fullShare x3
          ∗ owns (c : Thread nD τ) arg4 fullShare x4 ∗ owns (c : Thread nD τ) arg5 fullShare x5 ∗ owns (c : Thread nD τ) arg6 fullShare x6
          ∗ owns (c : Thread nD τ) arg7 fullShare x7 ∗ owns (c : Thread nD τ) arg8 fullShare (outBlk i x1 x2 x3 x4 x5 x6 x7 z)
          ∗ owns (c : Thread nD τ) arg9 fullShare (leave i x1 x2 x3 z).1 ∗ owns (c : Thread nD τ) arg10 fullShare (leave i x1 x2 x3 z).2
          ∗ (∃ d, owns (c : Thread nD τ) arg11 fullShare d)) -∗ K ⟨⟩))
      ⊢ wp frame (wpE (defs₀ (F := F)) Variants.none (c : Thread nD τ) none) E (cc1__lstm_body (F := F) i arg1 harg1 arg2 harg2 arg3 harg3 arg4 harg4 arg5 harg5 arg6 harg6 arg7 harg7 arg8 harg8 arg9 harg9 arg10 harg10 arg11 harg11) K := by
  simp only [cc1__lstm_body_eq_skeleton]; unfold cc1__lstm_body_skel
  simp only [k1_part50_eq_skeleton]; unfold k1_part50_skel
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩,
    ⟨%d8, %f8, -, H8⟩, ⟨%f9, %h9, H9⟩, ⟨%f10, %h10, H10⟩, ⟨%d11, %f11, -, H11⟩, Hk⟩
  obtain ⟨z1, z2⟩ := z
  dsimp only at h9 h10
  subst h1 h2 h3 h4 h5 h6 h7 h9 h10
  have he : enter i (arg9.view.read (Elt F) f9, arg10.view.read (Elt F) f10)
      = (k1_pay204 (arg9.view.readAt (Elt F) rKeep.toLoadRect f9), arg10.view.readAt (Elt F) rKeep.toLoadRect f10) := by
    unfold enter start
    rw [if_neg hi]
    rfl
  unfold outBlk leave outOf
  rw [he]
  clear he
  unfold isFirst at hi
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine Eq.trans (congrArg (arg8.view.read (Elt F)) (congrArg (arg8.view.writes (Elt F) f8) ?_))
      (read_out f8 (fun n => arg11.view.readCov (pieces (arg1.view.read (Elt F) f1) (arg2.view.read (Elt F) f2) (arg3.view.read (Elt F) f3) (k1_pay204 (arg9.view.readAt (Elt F) rKeep.toLoadRect f9), arg10.view.readAt (Elt F) rKeep.toLoadRect f10) 256) (rSlice n).toLoadRect) _ _ _ _ _ fun n => View.readCov_eq_canon' _ _ _)
    chain_rfl
  isplitl [H9]
  · iexists _; isplitr
    swap; · iexact H9
    ipureintro
    refine (View.read_writes_eq_canon _ _ _ (keep_cover _ _)).trans ((canon_keep _ _).trans ?_)
    chain_rfl
  isplitl [H10]
  · iexists _; isplitr
    swap; · iexact H10
    ipureintro
    refine (View.read_writes_eq_canon _ _ _ (keep_cover _ _)).trans ((canon_keep _ _).trans ?_)
    chain_rfl
  iexists _; iexists _; isplitr
  swap; · iexact H11
  ipureintro; rfl

end Cert.KernelIdeal.Lstm

end
-- ==== Proof.LstmFirst.lean ====
module

public import proofs.«01_k».proof.Proof.LstmLater

/-!
# The first grid point of the second call

The triple of the body where the point is the first: the kept state is set to zero before the loop (`body_first`).
-/

@[expose] public section

set_option maxRecDepth 16384

noncomputable section

namespace Cert.KernelIdeal.Lstm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What a load of the kept array reads after a write of the whole of it. -/
theorem keep_read (m : Memref sig .tc .vmem S20x256 .f32) (w : Vec F S20x256 .f32) :
    View.ld (View.canon [⟨rKeep, w⟩]) rKeep = m.view.readCov ([⟨rKeep, w⟩] : List (View.Piece (Elt F) S20x256 .f32)) rKeep.toLoadRect :=
  (View.readCov_eq_canon' m.view _ _).symm

set_option maxHeartbeats 8000000 in
theorem body_first (c : Dev nD) (E : Set ℕ) (i : grid1.Coords) (arg1 : Memref sig .tc .vmem S256x20x256 .bf16) (harg1 : arg1.IsWhole) (arg2 : Memref sig .tc .vmem S512x1024 .bf16) (harg2 : arg2.IsWhole) (arg3 : Memref sig .tc .vmem S1x1024 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x64 .bf16) (harg6 : arg6.IsWhole) (arg7 : Memref sig .tc .vmem S1x64 .f32) (harg7 : arg7.IsWhole) (arg8 : Memref sig .tc .vmem S256x20x64 .f32) (harg8 : arg8.IsWhole) (arg9 : Memref sig .tc .vmem S20x256 .f32) (harg9 : arg9.IsWhole) (arg10 : Memref sig .tc .vmem S20x256 .f32) (harg10 : arg10.IsWhole) (arg11 : Memref sig .tc .vmem S256x20x256 .bf16) (harg11 : arg11.IsWhole)
    (x1 : Vec F S256x20x256 .bf16) (x2 : Vec F S512x1024 .bf16) (x3 : Vec F S1x1024 .f32) (x4 : Vec F S256x256 .bf16) (x5 : Vec F S1x256 .f32) (x6 : Vec F S256x64 .bf16) (x7 : Vec F S1x64 .f32) (z : Kept F) (hi : isFirst i) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ (∃ d, owns (c : Thread nD τ) arg8 fullShare d)
        ∗ owns (c : Thread nD τ) arg9 fullShare z.1 ∗ owns (c : Thread nD τ) arg10 fullShare z.2 ∗ (∃ d, owns (c : Thread nD τ) arg11 fullShare d)
        ∗ (iprop(owns (c : Thread nD τ) arg1 fullShare x1 ∗ owns (c : Thread nD τ) arg2 fullShare x2 ∗ owns (c : Thread nD τ) arg3 fullShare x3
          ∗ owns (c : Thread nD τ) arg4 fullShare x4 ∗ owns (c : Thread nD τ) arg5 fullShare x5 ∗ owns (c : Thread nD τ) arg6 fullShare x6
          ∗ owns (c : Thread nD τ) arg7 fullShare x7 ∗ owns (c : Thread nD τ) arg8 fullShare (outBlk i x1 x2 x3 x4 x5 x6 x7 z)
          ∗ owns (c : Thread nD τ) arg9 fullShare (leave i x1 x2 x3 z).1 ∗ owns (c : Thread nD τ) arg10 fullShare (leave i x1 x2 x3 z).2
          ∗ (∃ d, owns (c : Thread nD τ) arg11 fullShare d)) -∗ K ⟨⟩))
      ⊢ wp frame (wpE (defs₀ (F := F)) Variants.none (c : Thread nD τ) none) E (cc1__lstm_body (F := F) i arg1 harg1 arg2 harg2 arg3 harg3 arg4 harg4 arg5 harg5 arg6 harg6 arg7 harg7 arg8 harg8 arg9 harg9 arg10 harg10 arg11 harg11) K := by
  simp only [cc1__lstm_body_eq_skeleton]; unfold cc1__lstm_body_skel
  simp only [k1_part50_eq_skeleton]; unfold k1_part50_skel
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩,
    ⟨%d8, %f8, -, H8⟩, ⟨%f9, %h9, H9⟩, ⟨%f10, %h10, H10⟩, ⟨%d11, %f11, -, H11⟩, Hk⟩
  obtain ⟨z1, z2⟩ := z
  dsimp only at h9 h10
  subst h1 h2 h3 h4 h5 h6 h7 h9 h10
  have hi' := hi
  unfold isFirst at hi
  sl_exec
  sl_step
  have he : enter i (arg9.view.read (Elt F) f9, arg10.view.read (Elt F) f10) = (k1_pay204 (body_first.sl.v3 c arg9), body_first.sl.v5 c arg10) := by
    unfold enter start
    rw [if_pos hi']
    refine congrArg₂ Prod.mk (congrArg k1_pay204 ?_) ?_
    · exact keep_read arg9 k1_pay202
    · exact keep_read arg10 k1_pay203
  unfold outBlk leave outOf
  rw [he]
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine Eq.trans (congrArg (arg8.view.read (Elt F)) (congrArg (arg8.view.writes (Elt F) f8) ?_))
      (read_out f8 (fun n => arg11.view.readCov (pieces (arg1.view.read (Elt F) f1) (arg2.view.read (Elt F) f2) (arg3.view.read (Elt F) f3) (k1_pay204 (body_first.sl.v3 c arg9), body_first.sl.v5 c arg10) 256) (rSlice n).toLoadRect) _ _ _ _ _ fun n => View.readCov_eq_canon' _ _ _)
    chain_rfl
  isplitl [H9]
  · iexists _; isplitr
    swap; · iexact H9
    ipureintro
    refine (View.read_writes_eq_canon _ _ _ (keep_cover _ _)).trans ((canon_keep _ _).trans ?_)
    chain_rfl
  isplitl [H10]
  · iexists _; isplitr
    swap; · iexact H10
    ipureintro
    refine (View.read_writes_eq_canon _ _ _ (keep_cover _ _)).trans ((canon_keep _ _).trans ?_)
    chain_rfl
  iexists _; iexists _; isplitr
  swap; · iexact H11
  ipureintro; rfl

end Cert.KernelIdeal.Lstm

end
-- ==== Proof.LstmBody.lean ====
module

public import proofs.«01_k».proof.Proof.LstmFirst

/-!
# One grid point of the second call

The triple of the whole body at any point (`body_triple`): the input blocks unchanged, the result's block at `outBlk`,
the kept state at `leave`.
-/

@[expose] public section

set_option maxRecDepth 16384

noncomputable section

namespace Cert.KernelIdeal.Lstm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem body_triple (c : Dev nD) (E : Set ℕ) (i : grid1.Coords) (arg1 : Memref sig .tc .vmem S256x20x256 .bf16) (harg1 : arg1.IsWhole) (arg2 : Memref sig .tc .vmem S512x1024 .bf16) (harg2 : arg2.IsWhole) (arg3 : Memref sig .tc .vmem S1x1024 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x64 .bf16) (harg6 : arg6.IsWhole) (arg7 : Memref sig .tc .vmem S1x64 .f32) (harg7 : arg7.IsWhole) (arg8 : Memref sig .tc .vmem S256x20x64 .f32) (harg8 : arg8.IsWhole) (arg9 : Memref sig .tc .vmem S20x256 .f32) (harg9 : arg9.IsWhole) (arg10 : Memref sig .tc .vmem S20x256 .f32) (harg10 : arg10.IsWhole) (arg11 : Memref sig .tc .vmem S256x20x256 .bf16) (harg11 : arg11.IsWhole)
    (x1 : Vec F S256x20x256 .bf16) (x2 : Vec F S512x1024 .bf16) (x3 : Vec F S1x1024 .f32) (x4 : Vec F S256x256 .bf16) (x5 : Vec F S1x256 .f32) (x6 : Vec F S256x64 .bf16) (x7 : Vec F S1x64 .f32) (z : Kept F) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ (∃ d, owns (c : Thread nD τ) arg8 fullShare d)
        ∗ owns (c : Thread nD τ) arg9 fullShare z.1 ∗ owns (c : Thread nD τ) arg10 fullShare z.2 ∗ (∃ d, owns (c : Thread nD τ) arg11 fullShare d)
        ∗ (iprop(owns (c : Thread nD τ) arg1 fullShare x1 ∗ owns (c : Thread nD τ) arg2 fullShare x2 ∗ owns (c : Thread nD τ) arg3 fullShare x3
          ∗ owns (c : Thread nD τ) arg4 fullShare x4 ∗ owns (c : Thread nD τ) arg5 fullShare x5 ∗ owns (c : Thread nD τ) arg6 fullShare x6
          ∗ owns (c : Thread nD τ) arg7 fullShare x7 ∗ owns (c : Thread nD τ) arg8 fullShare (outBlk i x1 x2 x3 x4 x5 x6 x7 z)
          ∗ owns (c : Thread nD τ) arg9 fullShare (leave i x1 x2 x3 z).1 ∗ owns (c : Thread nD τ) arg10 fullShare (leave i x1 x2 x3 z).2
          ∗ (∃ d, owns (c : Thread nD τ) arg11 fullShare d)) -∗ K ⟨⟩))
      ⊢ wp frame (wpE (defs₀ (F := F)) Variants.none (c : Thread nD τ) none) E (cc1__lstm_body (F := F) i arg1 harg1 arg2 harg2 arg3 harg3 arg4 harg4 arg5 harg5 arg6 harg6 arg7 harg7 arg8 harg8 arg9 harg9 arg10 harg10 arg11 harg11) K := by
  by_cases hi : isFirst i
  · exact body_first c E i arg1 harg1 arg2 harg2 arg3 harg3 arg4 harg4 arg5 harg5 arg6 harg6 arg7 harg7 arg8 harg8 arg9 harg9 arg10 harg10 arg11 harg11 x1 x2 x3 x4 x5 x6 x7 z hi K
  · exact body_later c E i arg1 harg1 arg2 harg2 arg3 harg3 arg4 harg4 arg5 harg5 arg6 harg6 arg7 harg7 arg8 harg8 arg9 harg9 arg10 harg10 arg11 harg11 x1 x2 x3 x4 x5 x6 x7 z hi K

end Cert.KernelIdeal.Lstm

end
-- ==== Proof.LstmRegion.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.LstmBody
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-!
# The second call: 256 rows of the recurrence per grid point

The four points run in order and pass the recurrence's state on in two scratch buffers. `keptAt` is the state before
each point, `outAt` the block of the result a point writes, `carry` what the points pass on. Stated at whatever the
buffers hold when the call is reached (`V`).
-/

@[expose] public section

set_option maxRecDepth 16384

noncomputable section

namespace Cert.KernelIdeal.Run

open Cert.KernelIdeal Cert.KernelIdeal.Gen Cert.KernelIdeal.Lstm
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers as the call finds them
variable (V : (c : Dev nD) → (b : Ref sig .tc) → Buf (Elt F) ((c : Thread nD τ).loc b))

/-- Window `w`'s block at point `t`, read off its array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input 0's buffer holds its block when the body runs. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input 1's buffer holds its block when the body runs. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input 2's buffer holds its block when the body runs. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input 3's buffer holds its block when the body runs. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input 4's buffer holds its block when the body runs. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input 5's buffer holds its block when the body runs. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input 6's buffer holds its block when the body runs. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/
/-- The kept state before point `n`: every point before it applied in order. -/
def keptAt (c : Dev nD) : ℕ → Kept F
  | 0 => (k1_pay202, k1_pay203)
  | n + 1 => if h : n < grid1.N then
      leave (grid1.coords ⟨n, h⟩) (iblk1 V c 0 ⟨n, h⟩) (iblk1 V c 1 ⟨n, h⟩) (iblk1 V c 2 ⟨n, h⟩) (keptAt c n)
    else keptAt c n

theorem keptAt_succ (c : Dev nD) (t : Fin cfg1.N) :
    keptAt V c (t.val + 1) = leave (grid1.coords t) (iblk1 V c 0 t) (iblk1 V c 1 t) (iblk1 V c 2 t) (keptAt V c t.val) :=
  dif_pos t.isLt

/-- Point 0 resets the kept state. -/
theorem isFirst_zero (t : Fin cfg1.N) (ht : t.val = 0) : isFirst (grid1.coords t) := by
  obtain rfl : t = t1_0 := Fin.ext ht
  decide

/-- Where the state is reset, what it was does not matter. -/
theorem enter_first {i : grid1.Coords} (hi : isFirst i) (z z' : Kept F) : enter i z = enter i z' := by
  unfold enter start
  rw [if_pos hi, if_pos hi]

/-- The result's block at point `t`. -/
def outAt (c : Dev nD) (t : Fin cfg1.N) : Vec F S256x20x64 .f32 :=
  outBlk (grid1.coords t) (iblk1 V c 0 t) (iblk1 V c 1 t) (iblk1 V c 2 t) (iblk1 V c 3 t) (iblk1 V c 4 t) (iblk1 V c 5 t) (iblk1 V c 6 t) (keptAt V c t.val)

/-- The first call's staging buffers, untouched by this one. -/
def idle1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- What the points pass on: the kept state in its two buffers (at point 0 whatever they hold), the history buffer, the
    buffers not used, the generator's register. -/
def carry (c : Dev nD) (n : ℕ) : sProp 𝕄 :=
  iprop(idle1 (F := F) c
    ∗ (∃ z : Kept F, ⌜n ≠ 0 → z = keptAt V c n⌝ ∗ owns (c : Thread nD τ) (Memref.whole cc1_scratch0) fullShare z.1
      ∗ owns (c : Thread nD τ) (Memref.whole cc1_scratch1) fullShare z.2)
    ∗ (∃ d : Vec F S256x20x256 .bf16, owns (c : Thread nD τ) (Memref.whole cc1_scratch2) fullShare d)
    ∗ ∃ r, prngReg c r)

/-- The pipeline's proof data: every input's buffer at its block, the result's at `outAt`, `carry` between points. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => outAt V c t
  Φ t := carry V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = outAt V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-- What the body is entered with at a point. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- What it leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at a point, over the carried state. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = carry V c (t.val + 1) from rfl, show (dat1 V c).Φ t.castSucc = carry V c t.val from rfl,
    show (dat1 V c).owesAt () t.succ = (dat1 V c).owesAt () t.castSucc from rfl,
    after1_0, after1_1, after1_2, after1_3, after1_4, after1_5, after1_6, after1_7]
  unfold carry
  iintro ⟨⟨Hi, ⟨%z, %hz, Hh, Hc⟩, Hs, Hp⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hen : enter (grid1.coords t) z = enter (grid1.coords t) (keptAt V c t.val) := by
    by_cases h0 : t.val = 0
    · exact enter_first (isFirst_zero t h0) _ _
    · rw [hz h0]
  have hout : outBlk (grid1.coords t) (iblk1 V c 0 t) (iblk1 V c 1 t) (iblk1 V c 2 t) (iblk1 V c 3 t) (iblk1 V c 4 t) (iblk1 V c 5 t) (iblk1 V c 6 t) z = outAt V c t := by
    unfold outAt outBlk
    rw [hen]
  have hkeep : leave (grid1.coords t) (iblk1 V c 0 t) (iblk1 V c 1 t) (iblk1 V c 2 t) z = keptAt V c (t.val + 1) := by
    rw [keptAt_succ]
    unfold leave
    rw [hen]
  iapply (body_triple c Set.univ (grid1.coords t) _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) z _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [Hh]; · iexact Hh
  isplitl [Hc]; · iexact Hc
  isplitl [Hs]; · iexact Hs
  rw [hout, hkeep]
  iintro ⟨H0, H1, H2, H3, H4, H5, H6, H7, Hh, Hc, Hs⟩
  isplitl [Hi Hh Hc Hs Hp]
  · isplitl [Hi]; · iexact Hi
    isplitl [Hh Hc]
    · iexists (keptAt V c (t.val + 1))
      isplitr; · ipureintro; exact fun _ => rfl
      isplitl [Hh]; · iexact Hh
      iexact Hc
    isplitl [Hs]; · iexact Hs
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row1 (t : Fin cfg1.N) :
    defs₀ (F := F) .tc cfg1.body (cfg1.bodyArgs t (cfg1.slots t)) = bodyAt1 t := by
  unfold defs₀; rw [Defs.onTc_tc]

/-- The body's obligation at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- The buffers the launch hands over are what the first point is entered with, -/
theorem carry_in (c : Dev nD) :
    iprop((∃ r, prngReg c r) ∗ Pipeline.scopedRest (Ix := Unit) (Name := ℕ) (U := UR sig nD τ) (Lvl := ℕ) (Val := Elt F) spec1 c) ⊢ carry (F := F) V c 0 := by
  rw [scopedRest1_eq]
  unfold carry idle1
  simp only [owns_whole]
  iintro ⟨Hp, I0, I1, I2, I3, I4, I5, I6, I7, I8, I9, ⟨%f0, H0⟩, ⟨%f1, H1⟩, ⟨%f2, H2⟩⟩
  isplitl [I0 I1 I2 I3 I4 I5 I6 I7 I8 I9]
  · isplitl [I0]; · iexact I0
    isplitl [I1]; · iexact I1
    isplitl [I2]; · iexact I2
    isplitl [I3]; · iexact I3
    isplitl [I4]; · iexact I4
    isplitl [I5]; · iexact I5
    isplitl [I6]; · iexact I6
    isplitl [I7]; · iexact I7
    isplitl [I8]; · iexact I8
    iexact I9
  isplitl [H0 H1]
  · iexists ((f0, f1) : Kept F)
    isplitr; · ipureintro; exact fun h => absurd rfl h
    isplitl [H0]; · iexact H0
    iexact H1
  isplitl [H2]; · iexists f2; iexact H2
  iexact Hp

/-- and what the last one leaves is those buffers. -/
theorem carry_out (c : Dev nD) (n : ℕ) :
    carry (F := F) V c n ⊢ iprop((∃ r, prngReg c r) ∗ Pipeline.scopedRest (Ix := Unit) (Name := ℕ) (U := UR sig nD τ) (Lvl := ℕ) (Val := Elt F) spec1 c) := by
  rw [scopedRest1_eq]
  unfold carry idle1
  simp only [owns_whole]
  iintro ⟨⟨I0, I1, I2, I3, I4, I5, I6, I7, I8, I9⟩, ⟨%z, -, H0, H1⟩, ⟨%f2, H2⟩, Hp⟩
  isplitl [Hp]; · iexact Hp
  isplitl [I0]; · iexact I0
  isplitl [I1]; · iexact I1
  isplitl [I2]; · iexact I2
  isplitl [I3]; · iexact I3
  isplitl [I4]; · iexact I4
  isplitl [I5]; · iexact I5
  isplitl [I6]; · iexact I6
  isplitl [I7]; · iexact I7
  isplitl [I8]; · iexact I8
  isplitl [I9]; · iexact I9
  isplitl [H0]; · iexists z.1; iexact H0
  isplitl [H1]; · iexists z.2; iexact H1
  iexists f2; iexact H2

end Cert.KernelIdeal.Run

end
-- ==== Proof.Run.lean ====
module

public import proofs.«01_k».proof.Proof.GcnRegion
public import proofs.«01_k».proof.Proof.LstmRegion
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-!
# The whole run

The program is three stretches of host operations around the two calls. `W0` … `W5` are the buffers at each boundary, a
fold from the launch; `run` says that every execution ends with the result as `W5` has it, the arguments as launched and
every semaphore at zero, at any number format.
-/

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arguments' arrays. -/
abbrev argRefs : List (Ref sig .tc) := [main_arg0, main_arg1, main_arg2, main_arg3, main_arg4, main_arg5, main_arg6, main_arg7, main_arg8, main_arg9, main_arg10, main_arg11, main_arg12, main_arg13, main_arg14]

theorem hostOps0_fresh : (hostOps0 : List (HloOp τ sig (Elt F))).Forall fun op => op.fresh = ∅ := by
  simp only [List.Forall]; repeat' constructor
/-- What the stretch's operations write, in order. -/
abbrev hostOps0_W : List (Ref sig .tc) := [main_call0_v0, main_call0_v1, main_call0_v2, main_call0_v3]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps1_fresh : (hostOps1 : List (HloOp τ sig (Elt F))).Forall fun op => op.fresh = ∅ := by
  simp only [List.Forall]; repeat' constructor
/-- What the stretch's operations write, in order. -/
abbrev hostOps1_W : List (Ref sig .tc) := [main_call0_v5, main_call0_cst, main_call0_v6, main_call0_cst_0, main_call0_v7, main_call0_cst_1, main_call0_v8, main_call0_v9, main_call0_v10, main_call0_v11, main_call0_v12, main_call0_v13, main_call0_v14, main_call0_v15, main_call0_v16, main_call0_v17, main_call0_v18, main_call0_v19, main_call0_v20, main_call0_v21, main_call0_v22, main_call0_v23, main_call0_v24, main_call0_v25]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

theorem hostOps2_fresh : (hostOps2 : List (HloOp τ sig (Elt F))).Forall fun op => op.fresh = ∅ := by
  simp only [List.Forall]; repeat' constructor
/-- What the stretch's operations write, in order. -/
abbrev hostOps2_W : List (Ref sig .tc) := [main_v0]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

/-- The buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After the first stretch. -/
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
/-- After the first call: its arrays at what its write-backs leave. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch. -/
abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
abbrev V3 : (c : Dev nD) → (b : Ref sig .tc) → Buf (Elt F) ((c : Thread nD τ).loc b) := fun c b => W3 m ρ c b
/-- After the second call: its arrays at what its write-backs leave. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last stretch. -/
abbrev W5 : Dev nD → Valuation τ sig (Elt F) := fun c => StableHlo.after hostOps2 (W4 m ρ c)
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

abbrev adm : (p : Fin 2) → (pcfgs (F := F) p).Adm := fun p => (cfgs p).toPCfg_adm
/-- The two calls' proof data, each at the buffers it is entered with. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers: the generator's register and nothing owed. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = carry (V3 m ρ) c 0 from rfl]
    iintro ⟨Hp, -, Hr⟩
    iapply (carry_in (V3 m ρ) c)
    isplitl [Hp]; · iexact Hp
    iexact Hr
  hout c := by
    rw [Pipeline.ownSems0_none, show (pdats m ρ 1 c).Φ (Fin.last _) = carry (V3 m ρ) c grid1.N from rfl]
    iintro H
    ihave H' := carry_out (V3 m ρ) c grid1.N $$ H
    icases H' with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's five segments. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- Every execution ends with the result at `W5`, the arguments as launched and every semaphore at zero. -/
theorem run : θ_run defs (onTc (τ := τ) (main (F := F))) ⟨m, fun _ => 0, ρ⟩ (fun r => (∀ c : Dev nD,
      r.2.mem ((c.tc : Thread nD τ).loc main_v0) = W5 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨h c _ (mem_uc main_v0 (by decide)),
       (h c _ (mem_uc main_arg0 (by decide))).trans (W5_args m ρ c main_arg0 (by simp)),
       (h c _ (mem_uc main_arg1 (by decide))).trans (W5_args m ρ c main_arg1 (by simp)),
       (h c _ (mem_uc main_arg2 (by decide))).trans (W5_args m ρ c main_arg2 (by simp)),
       (h c _ (mem_uc main_arg3 (by decide))).trans (W5_args m ρ c main_arg3 (by simp)),
       (h c _ (mem_uc main_arg4 (by decide))).trans (W5_args m ρ c main_arg4 (by simp)),
       (h c _ (mem_uc main_arg5 (by decide))).trans (W5_args m ρ c main_arg5 (by simp)),
       (h c _ (mem_uc main_arg6 (by decide))).trans (W5_args m ρ c main_arg6 (by simp)),
       (h c _ (mem_uc main_arg7 (by decide))).trans (W5_args m ρ c main_arg7 (by simp)),
       (h c _ (mem_uc main_arg8 (by decide))).trans (W5_args m ρ c main_arg8 (by simp)),
       (h c _ (mem_uc main_arg9 (by decide))).trans (W5_args m ρ c main_arg9 (by simp)),
       (h c _ (mem_uc main_arg10 (by decide))).trans (W5_args m ρ c main_arg10 (by simp)),
       (h c _ (mem_uc main_arg11 (by decide))).trans (W5_args m ρ c main_arg11 (by simp)),
       (h c _ (mem_uc main_arg12 (by decide))).trans (W5_args m ρ c main_arg12 (by simp)),
       (h c _ (mem_uc main_arg13 (by decide))).trans (W5_args m ρ c main_arg13 (by simp)),
       (h c _ (mem_uc main_arg14 (by decide))).trans (W5_args m ρ c main_arg14 (by simp))⟩), funext fun g => hz g (.inr (no_unscoped g.2))⟩)

/-- The arguments end as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run defs _ _).mono (fun _ h => ⟨fun c => (h.1 c).2, h.2⟩) (run m ρ)

end Cert.KernelIdeal.Run

end
-- ==== Proof.Frames.lean ====
module

public import proofs.«01_k».proof.Defs
public import proofs.«01_k».proof.Proof.Gen.Kernel
public import proofs.«01_k».proof.Proof.Gen.ReferenceIdeal.Run
public import proofs.«01_k».proof.Proof.Run

/-!
  The frames of the three programs: each terminates without fault, leaves its arguments as they were and every
  semaphore counter at zero. The kernel as printed and the kernel over the extended reals are one text, so the run of
  Run.lean, proved for any float values, is the run of both.
-/

@[expose] public section

noncomputable section

namespace Cert.Proof

open Idealize.ShloMosaic Idealize.SL.Sem Idealize.ShloMosaic.Pipeline

set_option maxRecDepth 100000 in
/-- The kernel over machine floats: the run of Run.lean at that instance. -/
theorem frame_kernel : Cert.quiescent_Kernel (hKernel := Cert.Kernel.Gen.facts) := fun m g _ => by
  have h := @Cert.KernelIdeal.Run.frame Bits _ m g
  refine Eq.mp ?_ h
  chain_rfl

/-- The kernel over the extended reals. -/
theorem frame_kernelIdeal : Cert.quiescent_KernelIdeal (hKernelIdeal := Cert.KernelIdeal.Gen.facts) := fun m g _ =>
  Cert.KernelIdeal.Run.frame (F := Ideal) m g

/-- The reference over the extended reals; it has no semaphore. -/
theorem frame_referenceIdeal : Cert.quiescent_ReferenceIdeal (hReferenceIdeal := Cert.ReferenceIdeal.Gen.facts) := fun m g _ =>
  (θ_run _ _ _).mono (fun r h => ⟨fun c => (h c).2, sem_eq_zero_of_no_sems (by decide) r.2⟩)
    (Cert.ReferenceIdeal.Value.run (F := Ideal) m g)

end Cert.Proof

end
-- ==== Proof.Spec.lean ====
module

public import Idealize.ShloMosaic.PureOps.Ideal
public import Idealize.ShloMosaic.Lib.IdealHost
public import Mathlib.Data.EReal.Inv
import Mathlib.Tactic.Ring
import Mathlib.Tactic.FieldSimp
import Mathlib.Tactic.NormNum
import Mathlib.Tactic.Positivity
import Mathlib.Tactic.Linarith

/-!
# The mathematics of the problem over the extended reals

The two graph layers, the recurrence over the nodes and the dense head, as functions of plain indices; and the three
identities by which the kernel's arithmetic is the reference's: the normalising factor of a row may be taken out of the
sum over its neighbours (`agg_factored`), a common scale may be taken out of a gate (`gate_scaled`), and the logistic
function is a hyperbolic tangent of half its argument (`half_tanh`). None needs the arguments to be finite.
-/

@[expose] public section

noncomputable section

namespace Cert.Spec

open Idealize.ShloMosaic

/-- A matrix of extended reals. -/
abbrev Mat (a b : ℕ) := Fin a → Fin b → EReal

/-! ## The graph layers -/

/-- The adjacency with self-loops: 1 at an edge and on the diagonal. -/
def edge (adj : Mat 1024 1024) : Mat 1024 1024 := fun i j => if i = j ∨ adj i j ≠ 0 then 1 else 0

/-- The reciprocal root of a node's degree. -/
def dis (adj : Mat 1024 1024) (i : Fin 1024) : EReal := Ideal.rsqrt (∑ j, edge adj i j)

/-- The normalised adjacency applied to the features `y`. -/
def agg {d : ℕ} (adj : Mat 1024 1024) (y : Mat 1024 d) : Mat 1024 d :=
  fun i h => ∑ k, (dis adj i * edge adj i k * dis adj k) * y k h

/-- The features after the first layer. -/
def layer1 (adj : Mat 1024 1024) (x : Mat 1024 16) (W1 : Mat 16 256) (b1 : Fin 256 → EReal) : Mat 1024 256 :=
  fun i h => max (agg adj (fun k h => ∑ q, x k q * W1 q h) i h + b1 h) 0

/-- Both layers. -/
def gcn (adj : Mat 1024 1024) (x : Mat 1024 16) (W1 : Mat 16 256) (b1 : Fin 256 → EReal) (W2 : Mat 256 256)
    (b2 : Fin 256 → EReal) : Mat 1024 256 :=
  fun i h => agg adj (fun k h => ∑ q, layer1 adj x W1 b1 k q * W2 q h) i h + b2 h

/-- A finite factor that is not negative distributes over a sum. -/
theorem mul_sum_of_nonneg {ι : Type} [Fintype ι] {z : EReal} (h0 : 0 ≤ z) (ht : z ≠ ⊤) (f : ι → EReal) :
    z * ∑ k, f k = ∑ k, z * f k :=
  map_sum (⟨⟨fun x : EReal => z * x, mul_zero z⟩, EReal.left_distrib_of_nonneg_of_ne_top h0 ht⟩ : EReal →+ EReal) f
    Finset.univ

theorem edge_eq (adj : Mat 1024 1024) (i j : Fin 1024) :
    edge adj i j = ((if i = j ∨ adj i j ≠ 0 then 1 else 0 : ℝ) : EReal) := by
  unfold edge; split <;> simp

/-- The factor `dis` is a real that is not negative: a node's degree is at least 1. -/
theorem dis_real (adj : Mat 1024 1024) (i : Fin 1024) : ∃ r : ℝ, 0 ≤ r ∧ dis adj i = (r : EReal) := by
  have hs : (∑ j, edge adj i j) = ((∑ j, (if i = j ∨ adj i j ≠ 0 then 1 else 0 : ℝ) : ℝ) : EReal) := by
    simp only [edge_eq]
    exact (map_sum (⟨⟨fun x : ℝ => (x : EReal), EReal.coe_zero⟩, EReal.coe_add⟩ : ℝ →+ EReal) _ Finset.univ).symm
  have hp : 0 < (∑ j, (if i = j ∨ adj i j ≠ 0 then 1 else 0 : ℝ)) := by
    refine Finset.sum_pos' (fun j _ => by split <;> norm_num) ⟨i, Finset.mem_univ _, ?_⟩
    simp
  refine ⟨(Real.sqrt (∑ j, (if i = j ∨ adj i j ≠ 0 then 1 else 0 : ℝ)))⁻¹, by positivity, ?_⟩
  unfold dis
  rw [hs]
  show (if _ < _ then _ else if _ = _ then _ else _) = _
  rw [if_neg (not_lt.mpr hp.le), if_neg hp.ne']

theorem dis_nonneg (adj : Mat 1024 1024) (i : Fin 1024) : 0 ≤ dis adj i := by
  obtain ⟨r, hr, e⟩ := dis_real adj i
  rw [e]; exact EReal.coe_nonneg.mpr hr

theorem dis_ne_top (adj : Mat 1024 1024) (i : Fin 1024) : dis adj i ≠ ⊤ := by
  obtain ⟨r, hr, e⟩ := dis_real adj i
  rw [e]; exact EReal.coe_ne_top r

/-- The row's factor outside the sum and the neighbour's on its features: the same aggregate. -/
theorem agg_factored {d : ℕ} (adj : Mat 1024 1024) (y : Mat 1024 d) (i : Fin 1024) (h : Fin d) :
    dis adj i * ∑ k, edge adj i k * (dis adj k * y k h) = agg adj y i h := by
  rw [mul_sum_of_nonneg (dis_nonneg adj i) (dis_ne_top adj i)]
  refine Finset.sum_congr rfl fun k _ => ?_
  rw [← mul_assoc, ← mul_assoc]

/-! ## The recurrence -/

/-- The four blocks of 256 gates: input, forget, candidate, output. -/
abbrev qI (j : Fin 256) : Fin 1024 := ⟨j.val, by omega⟩
abbrev qF (j : Fin 256) : Fin 1024 := ⟨256 + j.val, by omega⟩
abbrev qG (j : Fin 256) : Fin 1024 := ⟨512 + j.val, by omega⟩
abbrev qO (j : Fin 256) : Fin 1024 := ⟨768 + j.val, by omega⟩

/-- The gates before their nonlinearities. -/
def gate (Wih Whh : Mat 1024 256) (bih bhh : Fin 1024 → EReal) (x h : Fin 256 → EReal) (j : Fin 1024) : EReal :=
  ∑ q, x q * Wih j q + ∑ q, h q * Whh j q + bih j + bhh j

/-- The cell state after a step, of the gates and the cell state before. -/
def newC (g : Fin 1024 → EReal) (c : Fin 256 → EReal) (j : Fin 256) : EReal :=
  Ideal.logistic (g (qF j)) * c j + Ideal.logistic (g (qI j)) * Ideal.tanh (g (qG j))

/-- The hidden state after a step. -/
def newH (g : Fin 1024 → EReal) (c : Fin 256 → EReal) (j : Fin 256) : EReal :=
  Ideal.logistic (g (qO j)) * Ideal.tanh (newC g c j)

/-- Hidden state and cell state of one sequence. -/
abbrev HC := (Fin 256 → EReal) × (Fin 256 → EReal)

/-- One step on the input `x`. -/
def step (Wih Whh : Mat 1024 256) (bih bhh : Fin 1024 → EReal) (x : Fin 256 → EReal) (s : HC) : HC :=
  (newH (gate Wih Whh bih bhh x s.1) s.2, newC (gate Wih Whh bih bhh x s.1) s.2)

/-- The state after the first `n` inputs, from zero. -/
def state (Wih Whh : Mat 1024 256) (bih bhh : Fin 1024 → EReal) (seq : ℕ → Fin 256 → EReal) : ℕ → HC
  | 0 => (fun _ => 0, fun _ => 0)
  | n + 1 => step Wih Whh bih bhh (seq n) (state Wih Whh bih bhh seq n)

/-- A common finite scale that is not negative comes out of a gate, whichever way its four terms are added. -/
theorem gate_scaled (Wih Whh : Mat 1024 256) (bih bhh : Fin 1024 → EReal) (x h : Fin 256 → EReal) (j : Fin 1024)
    {s : EReal} (h0 : 0 ≤ s) (ht : s ≠ ⊤) :
    ∑ q, x q * (Wih j q * s) + (bih j + bhh j) * s + ∑ q, h q * (Whh j q * s) = s * gate Wih Whh bih bhh x h j := by
  unfold gate
  rw [EReal.left_distrib_of_nonneg_of_ne_top h0 ht, EReal.left_distrib_of_nonneg_of_ne_top h0 ht,
    EReal.left_distrib_of_nonneg_of_ne_top h0 ht, EReal.right_distrib_of_nonneg_of_ne_top h0 ht,
    mul_sum_of_nonneg h0 ht, mul_sum_of_nonneg h0 ht, mul_comm (bih j) s, mul_comm (bhh j) s]
  have e : ∀ (u : Fin 256 → EReal) (W : Mat 1024 256), ∑ q, u q * (W j q * s) = ∑ q, s * (u q * W j q) := fun u W =>
    Finset.sum_congr rfl fun q _ => by rw [← mul_assoc, mul_comm]
  rw [e x Wih, e h Whh]
  abel

/-- The constant one half. -/
theorem half_lit : Ideal.ofBits FTy.f32 1056964608#32 = ((1 / 2 : ℝ) : EReal) := by
  simp [Ideal.ofBits, Ideal.ieee, -EReal.coe_mul]; norm_num

theorem half_nonneg : (0 : EReal) ≤ ((1 / 2 : ℝ) : EReal) := EReal.coe_nonneg.mpr (by norm_num)

/-- The logistic function by a hyperbolic tangent of half the argument. -/
theorem half_tanh (g : EReal) :
    Ideal.tanh (((1 / 2 : ℝ) : EReal) * g) * ((1 / 2 : ℝ) : EReal) + ((1 / 2 : ℝ) : EReal) = Ideal.logistic g := by
  induction g using EReal.rec with
  | bot =>
    rw [EReal.coe_mul_bot_of_pos (by norm_num)]
    have e : Ideal.logistic (⊥ : EReal) = 0 := by
      show Ideal.div 1 (1 + Ideal.exp (-⊥)) = 0
      rw [EReal.neg_bot]
      show Ideal.div 1 (1 + ⊤) = 0
      rw [show (1 : EReal) + ⊤ = ⊤ from rfl]
      simp [Ideal.div]
    rw [e]
    show ((-1 : EReal)) * _ + _ = 0
    rw [show (-1 : EReal) = ((-1 : ℝ) : EReal) by simp, ← EReal.coe_mul, ← EReal.coe_add]
    norm_num
  | top =>
    rw [EReal.coe_mul_top_of_pos (by norm_num)]
    have e : Ideal.logistic (⊤ : EReal) = 1 := by
      show Ideal.div 1 (1 + Ideal.exp (-⊤)) = 1
      rw [EReal.neg_top]
      show Ideal.div 1 (1 + 0) = 1
      simp [Ideal.div]
    rw [e]
    show ((1 : EReal)) * _ + _ = 1
    rw [one_mul, ← EReal.coe_add]
    norm_num
  | coe r =>
    rw [← EReal.coe_mul]
    have e : Ideal.logistic (r : EReal) = ((1 / (1 + Real.exp (-r)) : ℝ) : EReal) := by
      show Ideal.div 1 (1 + ((Real.exp (-r) : ℝ) : EReal)) = _
      have hp : (0 : ℝ) < 1 + Real.exp (-r) := by positivity
      rw [show (1 : EReal) = ((1 : ℝ) : EReal) by simp, ← EReal.coe_add]
      unfold Ideal.div
      rw [if_neg (by exact_mod_cast hp.ne'), ← EReal.coe_inv, ← EReal.coe_mul, one_div, one_mul]
    rw [e]
    show ((Real.tanh (1 / 2 * r) : ℝ) : EReal) * _ + _ = _
    rw [← EReal.coe_mul, ← EReal.coe_add]
    congr 1
    rw [Real.tanh_eq]
    have hu : Real.exp (-r) = Real.exp (-(1 / 2 * r)) * Real.exp (-(1 / 2 * r)) := by
      rw [← Real.exp_add]; congr 1; ring
    have hv : Real.exp (1 / 2 * r) * Real.exp (-(1 / 2 * r)) = 1 := by
      rw [← Real.exp_add]; simp
    have hp : 0 < Real.exp (-(1 / 2 * r)) := Real.exp_pos _
    have hq : Real.exp (1 / 2 * r) = (Real.exp (-(1 / 2 * r)))⁻¹ := by
      rw [Real.exp_neg, inv_inv]
    rw [hu, hq]
    set v := Real.exp (-(1 / 2 * r))
    have hv0 : v ≠ 0 := hp.ne'
    have h1 : 1 + v * v ≠ 0 := by positivity
    field_simp
    ring

/-! ## The dense head -/

/-- The two dense layers on a hidden state. -/
def head (Wf1 : Mat 256 256) (bf1 : Fin 256 → EReal) (Wf2 : Mat 256 64) (bf2 : Fin 64 → EReal) (h : Fin 256 → EReal)
    (o : Fin 64) : EReal :=
  ∑ q, max (∑ p, h p * Wf1 p q + bf1 q) 0 * Wf2 q o + bf2 o

end Cert.Spec

end
-- ==== Proof.GcnValue.lean ====
module

public import proofs.«01_k».proof.Proof.Spec
public import proofs.«01_k».proof.Proof.GcnRegion
public import Idealize.ShloMosaic.Lib.Pipeline.ValueKit
public import Idealize.ShloMosaic.Lib.Pointwise

/-!
# What the first call leaves: both graph layers of every graph
-/

@[expose] public section

set_option maxRecDepth 16384

noncomputable section

namespace Cert.KernelIdeal.Run

open Cert.KernelIdeal Cert.KernelIdeal.Gen
open Idealize.ShloMosaic Idealize.ShloMosaic.TcCoe
open Idealize.SL.Sem
open Idealize.ShloMosaic.Pipeline (Dat)

/-! ## The payloads at an index -/

/-- The block's adjacency as a matrix. -/
abbrev adjOf (v0 : Vec Ideal S1x1024x1024 .f32) : Spec.Mat 1024 1024 := fun i j => v0 (ix3 0 i j)

theorem pay2_at (v0 : Vec Ideal S1x1024x1024 .f32) (i j : Fin 1024) :
    k0_pay2 v0 (ix2 i j) = Spec.edge (adjOf v0) i j := by
  have e : k0_pay2 v0 (ix2 i j) = Scalar.select (IntOp.ori (IntOp.cmpi CmpIPredicate.eq (BitVec.ofNat 32 i.val)
      (BitVec.ofNat 32 j.val)) (BitVec.ofBool (decide (v0 (ix3 0 i j) ≠ (0 : EReal))))) (1 : EReal) (0 : EReal) := by
    pointwise [k0_pay2]
  rw [e]
  have hij : IntOp.cmpi CmpIPredicate.eq (BitVec.ofNat 32 i.val) (BitVec.ofNat 32 j.val) = BitVec.ofBool (decide (i = j)) := by
    show BitVec.ofBool (decide (BitVec.ofNat 32 i.val = BitVec.ofNat 32 j.val)) = _
    congr 1
    refine decide_eq_decide.mpr ⟨fun h => ?_, fun h => by rw [h]⟩
    have h' := congrArg BitVec.toNat h
    simp only [BitVec.toNat_ofNat] at h'
    exact Fin.ext (by omega)
  rw [hij]
  unfold Spec.edge adjOf
  have sel : ∀ a b : Bool, Scalar.select (IntOp.ori (BitVec.ofBool a) (BitVec.ofBool b)) (1 : EReal) (0 : EReal)
      = if a = true ∨ b = true then 1 else 0 := by
    intro a b; cases a <;> cases b <;> simp [Scalar.select, IntOp.ori]
  rw [sel]
  simp only [decide_eq_true_eq]

theorem pay3_at (v0 : Vec Ideal S1x1024x1024 .f32) (i : Fin 1024) :
    k0_pay3 v0 (ix2 i 0) = Spec.dis (adjOf v0) i := by
  have e : k0_pay3 v0 (ix2 i 0) = Ideal.rsqrt (∑ x, k0_pay2 v0 (ix2 i x)) := by
    pointwise [k0_pay3]
  rw [e]
  simp only [pay2_at]
  rfl

theorem pay4_at (v0 : Vec Ideal S1x1024x1024 .f32) (i j : Fin 1024) :
    k0_pay4 v0 (ix2 i j) = Spec.edge (adjOf v0) i j := by
  have e : k0_pay4 v0 (ix2 i j) = (k0_pay2 v0 (ix2 i j) : EReal) := by pointwise [k0_pay4]
  rw [e, pay2_at]

theorem pay5_at (v0 : Vec Ideal S1x1024x1024 .f32) (v15 : Vec Ideal S1x1024x16 .f32) (v18 : Vec Ideal S16x256 .bf16)
    (v27 : Vec Ideal S1x256 .f32) (v34 : Vec Ideal S256x256 .bf16) (i : Fin 1024) (j : Fin 256) :
    k0_pay5 v0 v15 v18 v27 v34 (ix2 i j)
      = Spec.dis (adjOf v0) i * ∑ q, Spec.layer1 (adjOf v0) (fun k p => v15 (ix3 0 k p)) (fun p h => v18 (ix2 p h))
          (fun h => v27 (ix2 0 h)) i q * v34 (ix2 q j) := by
  have e : k0_pay5 v0 v15 v18 v27 v34 (ix2 i j)
      = k0_pay3 v0 (ix2 i 0) * ∑ x, max (k0_pay3 v0 (ix2 i 0) * ∑ x_1, k0_pay2 v0 (ix2 i x_1)
          * (k0_pay3 v0 (ix2 x_1 0) * ∑ x_2, v15 (ix3 0 x_1 x_2) * v18 (ix2 x_2 x)) + v27 (ix2 0 x)) (0 : EReal) * v34 (ix2 x j) := by
    pointwise [k0_pay5, k0_pay4]
  rw [e]
  simp only [pay2_at, pay3_at]
  have a := fun x => Spec.agg_factored (adjOf v0) (fun (k : Fin 1024) (h : Fin 256) => ∑ q, v15 (ix3 0 k q) * v18 (ix2 q h)) i x
  simp only [a]
  rfl

/-- What a point writes is both layers on the point's blocks. -/
theorem gcn_block (x0 : Vec Ideal S1x1024x1024 .f32) (x1 : Vec Ideal S1x1024x16 .f32) (x2 : Vec Ideal S16x256 .bf16)
    (x3 : Vec Ideal S1x256 .f32) (x4 : Vec Ideal S256x256 .bf16) (x5 : Vec Ideal S1x256 .f32) (i : Fin 1024) (h : Fin 256) :
    out0_6 x0 x1 x2 x3 x4 x5 (ix3 0 i h)
      = Spec.gcn (adjOf x0) (fun k p => x1 (ix3 0 k p)) (fun p h => x2 (ix2 p h)) (fun h => x3 (ix2 0 h))
          (fun q h => x4 (ix2 q h)) (fun h => x5 (ix2 0 h)) i h := by
  have z3 : (![0, 0, 0] : Fin 3 → ℕ) = fun _ => 0 := by funext a; fin_cases a <;> rfl
  have z2 : (![0, 0] : Fin 2 → ℕ) = fun _ => 0 := by funext a; fin_cases a <;> rfl
  unfold out0_6
  rw [View.canon_unit_zero z3]
  rw [View.ld_unit_zero z3, View.ld_unit_zero z3, View.ld_unit_zero z2, View.ld_unit_zero z2,
    View.ld_unit_zero z2, View.ld_unit_zero z2]
  have e : k0_pay1 (k0_pay3 x0) (k0_pay4 x0) (k0_pay5 x0 x1 x2 x3 x4) x5 (ix3 0 i h)
      = k0_pay3 x0 (ix2 i 0) * (∑ x, k0_pay4 x0 (ix2 i x) * k0_pay5 x0 x1 x2 x3 x4 (ix2 x h)) + x5 (ix2 0 h) := by
    pointwise [k0_pay1]
  rw [e]
  simp only [pay3_at, pay4_at, pay5_at]
  rw [Spec.agg_factored (adjOf x0) (fun k h => ∑ q, Spec.layer1 (adjOf x0) (fun k p => x1 (ix3 0 k p)) (fun p h => x2 (ix2 p h))
          (fun h => x3 (ix2 0 h)) k q * x4 (ix2 q h)) i h]
  rfl

/-! ## The array -/

variable (V : (c : Dev nD) → (b : Ref sig .tc) → Buf (Elt Ideal) ((c : Thread nD τ).loc b))

theorem idx0 : ∀ t : Fin cfg0.N, win0_0.index t = ![t.val, 0, 0] ∧ win0_1.index t = ![t.val, 0, 0] ∧ win0_2.index t = ![0, 0]
    ∧ win0_3.index t = ![0, 0] ∧ win0_4.index t = ![0, 0] ∧ win0_5.index t = ![0, 0] ∧ win0_6.index t = ![t.val, 0, 0] :=
  (by decide +kernel : ∀ t : Fin grid0.N, _)

/-- Both graph layers over the arrays the call reads. -/
def gcnAt (c : Dev nD) (t : Fin 20) : Spec.Mat 1024 256 :=
  Spec.gcn (fun i j => V c main_arg1 (ix3 t i j)) (fun k p => V c main_arg0 (ix3 t k p)) (fun p h => V c main_call0_v0 (ix2 p h))
    (fun h => V c main_call0_v1 (ix2 0 h)) (fun q h => V c main_call0_v2 (ix2 q h)) (fun h => V c main_call0_v3 (ix2 0 h))

theorem lt_20 (t : Fin cfg0.N) : t.val < 20 := Nat.lt_of_lt_of_eq t.isLt N_0

theorem blk0_0 (c : Dev nD) (t : Fin cfg0.N) (i j : Fin 1024) :
    iblk0 V c 0 t (ix3 0 i j) = V c main_arg1 (ix3 ⟨t.val, lt_20 t⟩ i j) := by
  blk_point [iblk0, idx0 t]

theorem blk0_1 (c : Dev nD) (t : Fin cfg0.N) (k : Fin 1024) (p : Fin 16) :
    iblk0 V c 1 t (ix3 0 k p) = V c main_arg0 (ix3 ⟨t.val, lt_20 t⟩ k p) := by
  blk_point [iblk0, idx0 t]

theorem blk0_2 (c : Dev nD) (t : Fin cfg0.N) (p : Fin 16) (h : Fin 256) :
    iblk0 V c 2 t (ix2 p h) = V c main_call0_v0 (ix2 p h) := by
  blk_point [iblk0, idx0 t]

theorem blk0_3 (c : Dev nD) (t : Fin cfg0.N) (h : Fin 256) :
    iblk0 V c 3 t (ix2 0 h) = V c main_call0_v1 (ix2 0 h) := by
  blk_point [iblk0, idx0 t]

theorem blk0_4 (c : Dev nD) (t : Fin cfg0.N) (q h : Fin 256) :
    iblk0 V c 4 t (ix2 q h) = V c main_call0_v2 (ix2 q h) := by
  blk_point [iblk0, idx0 t]

theorem blk0_5 (c : Dev nD) (t : Fin cfg0.N) (h : Fin 256) :
    iblk0 V c 5 t (ix2 0 h) = V c main_call0_v3 (ix2 0 h) := by
  blk_point [iblk0, idx0 t]

theorem place0_6 (t : Fin cfg0.N) (i : Fin 1024) (h : Fin 256) :
    (win0_6.blk t).view.emb (ix3 0 i h) = (ix3 ⟨t.val, lt_20 t⟩ i h : S20x1024x256.Idx) := by
  blk_ext [idx0 t]

theorem gcn_arr (c : Dev nD) :
    (dat0 V c).arrAt 6 cfg0.N = fun y : S20x1024x256.Idx => gcnAt V c (y 0) (y 1) (y 2) := by
  refine (dat0 V c).arrAt_eq_of_covers 6 _ (by decide +kernel) fun t _ y => ?_
  blk_simp
  rw [after0_6]
  have hy : ∃ (i : Fin 1024) (h : Fin 256), y = (ix3 0 i h : S1x1024x256.Idx) := by
    refine ⟨y 1, y 2, ?_⟩
    funext a
    fin_cases a
    · exact Subsingleton.elim (α := Fin 1) _ _
    · rfl
    · rfl
  obtain ⟨i, h, rfl⟩ := hy
  rw [gcn_block, place0_6]
  rw [show adjOf (iblk0 V c 0 t) = fun i j => V c main_arg1 (ix3 ⟨t.val, lt_20 t⟩ i j) from
    funext fun i => funext fun j => blk0_0 V c t i j]
  simp only [blk0_1, blk0_2, blk0_3, blk0_4, blk0_5]
  rfl

end Cert.KernelIdeal.Run

end
-- ==== Proof.LstmCell.lean ====
module

public import proofs.«01_k».proof.Proof.Spec
public import proofs.«01_k».proof.Proof.LstmPoint
public import Idealize.ShloMosaic.Lib.Pipeline.ValueKit
public import Idealize.ShloMosaic.Lib.Pointwise

/-!
# The second call's arithmetic at an index

One step of the kernel's recurrence is one step of the plain one in each of the 20 sequences (`cell_at`), although the
kernel's weights and biases carry a factor of one half for the three gates it puts through a hyperbolic tangent of half
the argument. From it the loop, the history and the dense head of one grid point.
-/

@[expose] public section

set_option maxRecDepth 16384

noncomputable section

namespace Cert.KernelIdeal.Lstm

open Cert.KernelIdeal Cert.KernelIdeal.Gen
open Idealize.ShloMosaic Idealize.ShloMosaic.TcCoe
open Idealize.SL.Sem
open Cert.Spec (Mat HC)

/-- The factor the weights of a gate carry: 1 for the candidate, one half for the other three. -/
def scale (j : Fin 1024) : EReal := if 512 ≤ j.val ∧ j.val < 768 then 1 else ((1 / 2 : ℝ) : EReal)

theorem scale_nonneg (j : Fin 1024) : 0 ≤ scale j := by
  unfold scale; split
  · exact zero_le_one
  · exact Spec.half_nonneg

theorem scale_ne_top (j : Fin 1024) : scale j ≠ ⊤ := by
  unfold scale; split
  · exact EReal.coe_ne_top 1
  · exact EReal.coe_ne_top _

/-- The stacked weights `x2` and the bias row `x3` are the scaled weights and biases. -/
structure Scaled (x2 : Vec Ideal S512x1024 .bf16) (x3 : Vec Ideal S1x1024 .f32) (Wih Whh : Mat 1024 256)
    (bih bhh : Fin 1024 → EReal) : Prop where
  inW : ∀ (q : Fin 256) (j : Fin 1024), x2 (ix2 ⟨q.val, by omega⟩ j) = Wih j q * scale j
  hidW : ∀ (q : Fin 256) (j : Fin 1024), x2 (ix2 ⟨256 + q.val, by omega⟩ j) = Whh j q * scale j
  bias : ∀ j : Fin 1024, x3 (ix2 0 j) = (bih j + bhh j) * scale j

/-- Sequence `t`'s state. -/
def seqSt (s : St Ideal) (t : Fin 20) : HC := (fun q => s.1 (ix2 t q), fun q => s.2 (ix2 t q))

variable {x2 : Vec Ideal S512x1024 .bf16} {x3 : Vec Ideal S1x1024 .f32} {Wih Whh : Mat 1024 256} {bih bhh : Fin 1024 → EReal}

theorem ld_in (q : Fin 256) (j : Fin 1024) : View.ld x2 rIn (ix2 q j) = x2 (ix2 ⟨q.val, by omega⟩ j) := by
  show x2 (rIn.emb (ix2 q j)) = _
  blk_ext []

theorem ld_hid (q : Fin 256) (j : Fin 1024) : View.ld x2 rHid (ix2 q j) = x2 (ix2 ⟨256 + q.val, by omega⟩ j) := by
  show x2 (rHid.emb (ix2 q j)) = _
  blk_ext []

theorem ld_bias (j : Fin 1024) : View.ld x3 rBias (ix2 0 j) = x3 (ix2 0 j) := by
  show x3 (rBias.emb (ix2 0 j)) = _
  blk_ext []

/-- The kernel's gates are the plain ones times the factor. -/
theorem gates_at (hs : Scaled x2 x3 Wih Whh bih bhh) (xr : Vec Ideal S1x20x256 .bf16) (s : St Ideal) (t : Fin 20) (j : Fin 1024) :
    k1_pay2 s.1 xr (View.ld x2 rIn) (View.ld x3 rBias) (View.ld x2 rHid) (ix2 t j)
      = scale j * Spec.gate Wih Whh bih bhh (fun q => xr (ix3 0 t q)) (seqSt s t).1 j := by
  have e : ∀ (h : FVec Ideal S20x256 .bf16) (v460 : Vec Ideal S256x1024 .bf16) (v463 : Vec Ideal S1x1024 .f32) (v467 : Vec Ideal S256x1024 .bf16),
      (∀ q, v460 (ix2 q j) = Wih j q * scale j) → v463 (ix2 0 j) = (bih j + bhh j) * scale j
        → (∀ q, v467 (ix2 q j) = Whh j q * scale j)
        → k1_pay2 h xr v460 v463 v467 (ix2 t j) = scale j * Spec.gate Wih Whh bih bhh (fun q => xr (ix3 0 t q)) (fun q => h (ix2 t q)) j := by
    intro h v460 v463 v467 h1 h2 h3
    have e : k1_pay2 h xr v460 v463 v467 (ix2 t j)
        = ∑ x, xr (ix3 0 t x) * v460 (ix2 x j) + v463 (ix2 0 j) + ∑ x, h (ix2 t x) * v467 (ix2 x j) := by
      pointwise [k1_pay2]
    rw [e, ← Spec.gate_scaled Wih Whh bih bhh _ _ j (scale_nonneg j) (scale_ne_top j), h2]
    simp only [h1, h3]
  exact e _ _ _ _ (fun q => (ld_in q j).trans (hs.inW q j)) ((ld_bias j).trans (hs.bias j))
    (fun q => (ld_hid q j).trans (hs.hidW q j))

theorem scale_half {j : Fin 1024} (h : ¬ (512 ≤ j.val ∧ j.val < 768)) : scale j = ((1 / 2 : ℝ) : EReal) := if_neg h
theorem scale_one {j : Fin 1024} (h : 512 ≤ j.val ∧ j.val < 768) : scale j = 1 := if_pos h

theorem newC_at (hs : Scaled x2 x3 Wih Whh bih bhh) (xr : Vec Ideal S1x20x256 .bf16) (s : St Ideal) (t : Fin 20) (j : Fin 256) :
    k1_pay3 s.1 s.2 xr (View.ld x2 rIn) (View.ld x3 rBias) (View.ld x2 rHid) (ix2 t j)
      = Spec.newC (Spec.gate Wih Whh bih bhh (fun q => xr (ix3 0 t q)) (seqSt s t).1) (seqSt s t).2 j := by
  have e : ∀ (h : FVec Ideal S20x256 .bf16) (c : Vec Ideal S20x256 .f32) (v460 : Vec Ideal S256x1024 .bf16) (v463 : Vec Ideal S1x1024 .f32) (v467 : Vec Ideal S256x1024 .bf16),
      k1_pay3 h c xr v460 v463 v467 (ix2 t j)
        = (Ideal.tanh (k1_pay2 h xr v460 v463 v467 (ix2 t (Spec.qF j))) * Ideal.ofBits FTy.f32 1056964608#32 + Ideal.ofBits FTy.f32 1056964608#32) * c (ix2 t j)
          + (Ideal.tanh (k1_pay2 h xr v460 v463 v467 (ix2 t (Spec.qI j))) * Ideal.ofBits FTy.f32 1056964608#32 + Ideal.ofBits FTy.f32 1056964608#32)
            * Ideal.tanh (k1_pay2 h xr v460 v463 v467 (ix2 t (Spec.qG j))) := by
    intro h c v460 v463 v467
    pointwise [k1_pay3]
  rw [e, gates_at hs, gates_at hs, gates_at hs, Spec.half_lit]
  rw [scale_half (j := Spec.qF j) (by show ¬ (512 ≤ 256 + j.val ∧ _); omega), scale_half (j := Spec.qI j) (by show ¬ (512 ≤ j.val ∧ _); omega),
    scale_one (j := Spec.qG j) (by show 512 ≤ 512 + j.val ∧ 512 + j.val < 768; omega), one_mul, Spec.half_tanh, Spec.half_tanh]
  rfl

theorem newH_at (hs : Scaled x2 x3 Wih Whh bih bhh) (xr : Vec Ideal S1x20x256 .bf16) (s : St Ideal) (t : Fin 20) (j : Fin 256) :
    k1_pay5 (k1_pay4 s.1 s.2 xr (View.ld x2 rIn) (View.ld x3 rBias) (View.ld x2 rHid)) (ix2 t j)
      = Spec.newH (Spec.gate Wih Whh bih bhh (fun q => xr (ix3 0 t q)) (seqSt s t).1) (seqSt s t).2 j := by
  have e : ∀ (h : FVec Ideal S20x256 .bf16) (c : Vec Ideal S20x256 .f32) (v460 : Vec Ideal S256x1024 .bf16) (v463 : Vec Ideal S1x1024 .f32) (v467 : Vec Ideal S256x1024 .bf16),
      k1_pay5 (k1_pay4 h c xr v460 v463 v467) (ix2 t j)
        = (Ideal.tanh (k1_pay2 h xr v460 v463 v467 (ix2 t (Spec.qO j))) * Ideal.ofBits FTy.f32 1056964608#32 + Ideal.ofBits FTy.f32 1056964608#32)
          * Ideal.tanh (k1_pay3 h c xr v460 v463 v467 (ix2 t j)) := by
    intro h c v460 v463 v467
    pointwise [k1_pay5, k1_pay4]
  rw [e, gates_at hs, newC_at hs, Spec.half_lit]
  rw [scale_half (j := Spec.qO j) (by show ¬ (512 ≤ 768 + j.val ∧ 768 + j.val < 768); omega), Spec.half_tanh]
  rfl

/-- One step of the kernel's recurrence is one step of the plain one in every sequence. -/
theorem cell_at (hs : Scaled x2 x3 Wih Whh bih bhh) (xr : Vec Ideal S1x20x256 .bf16) (s : St Ideal) (t : Fin 20) :
    seqSt (cell x2 x3 xr s) t = Spec.step Wih Whh bih bhh (fun q => xr (ix3 0 t q)) (seqSt s t) :=
  Prod.ext (funext fun j => newH_at hs xr s t j) (funext fun j => newC_at hs xr s t j)

/-! ## The loop -/

theorem ld_row (x1 : Vec Ideal S256x20x256 .bf16) (n : ℕ) (hn : n < 256) (t : Fin 20) (q : Fin 256) :
    View.ld x1 (rRow n) (ix3 0 t q) = x1 (ix3 ⟨n, hn⟩ t q) := by
  show x1 ((rRow n).emb (ix3 0 t q)) = _
  have e : n % 256 = n := Nat.mod_eq_of_lt hn
  blk_ext []

/-- Entered with the plain state after `k` inputs, the loop has the plain state after `k + n` after `n` steps. -/
theorem stAt_at (hs : Scaled x2 x3 Wih Whh bih bhh) (x1 : Vec Ideal S256x20x256 .bf16) (s : St Ideal) (t : Fin 20)
    (seq : ℕ → Fin 256 → EReal) (k : ℕ) (hx : ∀ r : Fin 256, (fun q => x1 (ix3 r t q)) = seq (k + r.val))
    (h0 : seqSt s t = Spec.state Wih Whh bih bhh seq k) :
    ∀ n, n ≤ 256 → seqSt (stAt x1 x2 x3 s n) t = Spec.state Wih Whh bih bhh seq (k + n)
  | 0, _ => h0
  | n + 1, hn => by
    have ih := stAt_at hs x1 s t seq k hx h0 n (by omega)
    show seqSt (cell x2 x3 (View.ld x1 (rRow n)) (stAt x1 x2 x3 s n)) t = Spec.step Wih Whh bih bhh (seq (k + n)) (Spec.state Wih Whh bih bhh seq (k + n))
    rw [cell_at hs, ih, ← hx ⟨n, by omega⟩]
    congr 1
    funext q
    exact ld_row x1 n (by omega) t q

/-! ## The history and the dense head -/

theorem asRow_at (h : FVec Ideal S20x256 .bf16) (t : Fin 20) (q : Fin 256) : asRow h (ix3 0 t q) = h (ix2 t q) := by
  pointwise [asRow]

/-- Each row of the history holds the hidden state after its step. -/
theorem pieces_at (x1 : Vec Ideal S256x20x256 .bf16) (s : St Ideal) (r : Fin 256) (t : Fin 20) (q : Fin 256) :
    ∀ n, n ≤ 256 → View.AllAt (pieces x1 x2 x3 s n) (ix3 r t q : S256x20x256.Idx) ((stAt x1 x2 x3 s (r.val + 1)).1 (ix2 t q))
  | 0, _ => View.allAt_nil _ _
  | n + 1, hn => by
    refine View.allAt_cons_unit _ _ _ _ _ (fun x hx => ?_) (pieces_at x1 s r t q n (by omega))
    have e : n % 256 = n := Nat.mod_eq_of_lt (by omega)
    have h0 : r.val = n % 256 + (x 0).val := hx 0
    have h1 : t.val = 0 + (x 1).val := hx 1
    have h2 : q.val = 0 + (x 2).val := hx 2
    have hx0 : (x 0).val < 1 := (x 0).isLt
    have hr : r.val = n := by omega
    have ex : x = (ix3 0 t q : S1x20x256.Idx) := by
      funext a
      apply Fin.ext
      fin_cases a
      · show (x 0).val = 0; omega
      · show (x 1).val = t.val; omega
      · show (x 2).val = q.val; omega
    rw [ex, hr]
    exact asRow_at _ t q

theorem hist_at (x1 : Vec Ideal S256x20x256 .bf16) (s : St Ideal) (r : Fin 256) (t : Fin 20) (q : Fin 256) :
    histFrom x1 x2 x3 s (ix3 r t q) = (stAt x1 x2 x3 s (r.val + 1)).1 (ix2 t q) :=
  View.canon_eq_of_allAt _ _ _ (by
    obtain ⟨p, hp, hy⟩ := View.cover_of_tiled (pieces x1 x2 x3 s 256) S1x20x256.size (by rfl) (ix3 r t q : S256x20x256.Idx)
    exact ⟨p, hp, hy⟩) (pieces_at x1 s r t q 256 le_rfl)

theorem dense_at (h : Vec Ideal S256x1x256 .bf16) (x4 : Vec Ideal S256x256 .bf16) (x5 : Vec Ideal S1x256 .f32)
    (x6 : Vec Ideal S256x64 .bf16) (x7 : Vec Ideal S1x64 .f32) (r : Fin 256) (o : Fin 64) :
    dense h x4 x5 x6 x7 (ix3 r 0 o)
      = Spec.head (fun p q => x4 (ix2 p q)) (fun q => x5 (ix2 0 q)) (fun q o => x6 (ix2 q o)) (fun o => x7 (ix2 0 o))
          (fun p => h (ix3 r 0 p)) o := by
  have z2 : (![0, 0] : Fin 2 → ℕ) = fun _ => 0 := by funext a; fin_cases a <;> rfl
  unfold dense
  rw [View.ld_unit_zero z2, View.ld_unit_zero z2, View.ld_unit_zero z2, View.ld_unit_zero z2]
  have e : k1_pay212 h x4 x5 x6 x7 (ix3 r 0 o)
      = ∑ x, max (∑ x_1, h (ix3 r 0 x_1) * x4 (ix2 x_1 x) + x5 (ix2 0 x)) (0 : EReal) * x6 (ix2 x o) + x7 (ix2 0 o) := by
    pointwise [k1_pay212]
  rw [e]
  rfl

theorem outPieces_at (H : Vec Ideal S256x20x256 .bf16) (x4 : Vec Ideal S256x256 .bf16) (x5 : Vec Ideal S1x256 .f32)
    (x6 : Vec Ideal S256x64 .bf16) (x7 : Vec Ideal S1x64 .f32) (r : Fin 256) (t : Fin 20) (o : Fin 64) :
    ∀ n, n ≤ 20 → View.AllAt (outPieces (fun n => View.ld H (rSlice n)) x4 x5 x6 x7 n) (ix3 r t o : S256x20x64.Idx)
      (Spec.head (fun p q => x4 (ix2 p q)) (fun q => x5 (ix2 0 q)) (fun q o => x6 (ix2 q o)) (fun o => x7 (ix2 0 o))
          (fun p => H (ix3 r t p)) o)
  | 0, _ => View.allAt_nil _ _
  | n + 1, hn => by
    refine View.allAt_cons_unit _ _ _ _ _ (fun x hx => ?_) (outPieces_at H x4 x5 x6 x7 r t o n (by omega))
    have e : n % 20 = n := Nat.mod_eq_of_lt (by omega)
    have h0 : r.val = 0 + (x 0).val := hx 0
    have h1 : t.val = n % 20 + (x 1).val := hx 1
    have h2 : o.val = 0 + (x 2).val := hx 2
    have hx1 : (x 1).val < 1 := (x 1).isLt
    have ht : t.val = n := by omega
    have ex : x = (ix3 r 0 o : S256x1x64.Idx) := by
      funext a
      apply Fin.ext
      fin_cases a
      · show (x 0).val = r.val; omega
      · show (x 1).val = 0; omega
      · show (x 2).val = o.val; omega
    rw [ex]
    refine (dense_at _ x4 x5 x6 x7 r o).trans ?_
    congr 1
    funext p
    show H ((rSlice n).emb (ix3 r 0 p)) = _
    blk_ext []

theorem outOf_at (H : Vec Ideal S256x20x256 .bf16) (x4 : Vec Ideal S256x256 .bf16) (x5 : Vec Ideal S1x256 .f32)
    (x6 : Vec Ideal S256x64 .bf16) (x7 : Vec Ideal S1x64 .f32) (r : Fin 256) (t : Fin 20) (o : Fin 64) :
    outOf H x4 x5 x6 x7 (ix3 r t o)
      = Spec.head (fun p q => x4 (ix2 p q)) (fun q => x5 (ix2 0 q)) (fun q o => x6 (ix2 q o)) (fun o => x7 (ix2 0 o))
          (fun p => H (ix3 r t p)) o :=
  View.canon_eq_of_allAt _ _ _ (out_cover _ x4 x5 x6 x7 _) (outPieces_at H x4 x5 x6 x7 r t o 20 le_rfl)

end Cert.KernelIdeal.Lstm

end
-- ==== Proof.LstmValue.lean ====
module

public import proofs.«01_k».proof.Proof.LstmCell
public import proofs.«01_k».proof.Proof.LstmRegion
public import Idealize.ShloMosaic.Lib.Pipeline.ValueKit
public import Idealize.ShloMosaic.Lib.Pointwise

/-!
# What the second call leaves: the dense head of the hidden state after each node

The four grid points hand the recurrence's state on, so that point `p` is entered with the state after `256 p` nodes
(`kept_at`) and its block of the result is the head of the states after the next 256 (`out_at`).
-/

@[expose] public section

set_option maxRecDepth 16384

noncomputable section

namespace Cert.KernelIdeal.Lstm

open Cert.KernelIdeal Cert.KernelIdeal.Gen
open Idealize.ShloMosaic Idealize.ShloMosaic.TcCoe
open Idealize.SL.Sem
open Cert.Spec (Mat HC)

variable {x2 : Vec Ideal S512x1024 .bf16} {x3 : Vec Ideal S1x1024 .f32} {Wih Whh : Mat 1024 256} {bih bhh : Fin 1024 → EReal}

/-! ## The kept state -/

/-- Sequence `t`'s kept state. -/
def keptSeq (z : Kept Ideal) (t : Fin 20) : HC := (fun q => z.1 (ix2 t q), fun q => z.2 (ix2 t q))

theorem enter_zero {i : grid1.Coords} (hi : isFirst i) (z : Kept Ideal) (t : Fin 20) :
    seqSt (enter i z) t = (fun _ => 0, fun _ => 0) := by
  unfold enter start
  rw [if_pos hi]
  have z2 : (![0, 0] : Fin 2 → ℕ) = fun _ => 0 := by funext a; fin_cases a <;> rfl
  rw [View.canon_unit_zero z2, View.canon_unit_zero z2, View.ld_unit_zero z2, View.ld_unit_zero z2]
  refine Prod.ext (funext fun q => ?_) (funext fun q => ?_)
  · show k1_pay204 (F := Ideal) (k1_pay202 (F := Ideal)) (ix2 t q) = (0 : EReal)
    pointwise [k1_pay204, k1_pay202]
  · show (k1_pay203 (F := Ideal)) (ix2 t q) = (0 : EReal)
    pointwise [k1_pay203]

theorem enter_later {i : grid1.Coords} (hi : ¬ isFirst i) (z : Kept Ideal) (t : Fin 20) :
    seqSt (enter i z) t = keptSeq z t := by
  unfold enter start
  rw [if_neg hi]
  have z2 : (![0, 0] : Fin 2 → ℕ) = fun _ => 0 := by funext a; fin_cases a <;> rfl
  rw [View.ld_unit_zero z2, View.ld_unit_zero z2]
  refine Prod.ext (funext fun q => ?_) rfl
  show k1_pay204 (F := Ideal) z.1 (ix2 t q) = (z.1 (ix2 t q) : EReal)
  pointwise [k1_pay204]

theorem leaveFrom_at (x1 : Vec Ideal S256x20x256 .bf16) (s : St Ideal) (t : Fin 20) :
    keptSeq (leaveFrom x1 x2 x3 s) t = seqSt (stAt x1 x2 x3 s 256) t := by
  unfold leaveFrom
  generalize stAt x1 x2 x3 s 256 = u
  refine Prod.ext (funext fun q => ?_) (funext fun q => ?_)
  · show k1_pay208 u.1 (ix2 t q) = (u.1 (ix2 t q) : EReal)
    pointwise [k1_pay208]
  · show k1_pay209 u.2 (ix2 t q) = (u.2 (ix2 t q) : EReal)
    pointwise [k1_pay209]

end Cert.KernelIdeal.Lstm

namespace Cert.KernelIdeal.Run

open Cert.KernelIdeal Cert.KernelIdeal.Gen Cert.KernelIdeal.Lstm
open Idealize.ShloMosaic Idealize.ShloMosaic.TcCoe
open Idealize.SL.Sem
open Idealize.ShloMosaic.Pipeline (Dat)
open Cert.Spec (Mat HC)

variable (V : (c : Dev nD) → (b : Ref sig .tc) → Buf (Elt Ideal) ((c : Thread nD τ).loc b))

theorem idx1 : ∀ t : Fin cfg1.N, win1_0.index t = ![t.val, 0, 0] ∧ win1_1.index t = ![0, 0] ∧ win1_2.index t = ![0, 0]
    ∧ win1_3.index t = ![0, 0] ∧ win1_4.index t = ![0, 0] ∧ win1_5.index t = ![0, 0] ∧ win1_6.index t = ![0, 0]
    ∧ win1_7.index t = ![t.val, 0, 0] :=
  (by decide +kernel : ∀ t : Fin grid1.N, _)

theorem lt_4 (t : Fin cfg1.N) : t.val < 4 := Nat.lt_of_lt_of_eq t.isLt N_1

theorem not_first : ∀ t : Fin cfg1.N, t.val ≠ 0 → ¬ isFirst (grid1.coords t) :=
  (by decide +kernel : ∀ t : Fin grid1.N, t.val ≠ 0 → ¬ isFirst (grid1.coords t))

theorem blk1_0 (c : Dev nD) (p : Fin cfg1.N) (r : Fin 256) (t : Fin 20) (q : Fin 256) :
    iblk1 V c 0 p (ix3 r t q)
      = V c main_call0_v5 (ix3 ⟨256 * p.val + r.val, by have := lt_4 p; omega⟩ t q) := by
  blk_point [iblk1, idx1 p]

theorem blk1_1 (c : Dev nD) (p : Fin cfg1.N) (q : Fin 512) (j : Fin 1024) :
    iblk1 V c 1 p (ix2 q j) = V c main_call0_v21 (ix2 q j) := by
  blk_point [iblk1, idx1 p]

theorem blk1_2 (c : Dev nD) (p : Fin cfg1.N) (j : Fin 1024) :
    iblk1 V c 2 p (ix2 0 j) = V c main_call0_v14 (ix2 0 j) := by
  blk_point [iblk1, idx1 p]

theorem blk1_3 (c : Dev nD) (p : Fin cfg1.N) (a b : Fin 256) :
    iblk1 V c 3 p (ix2 a b) = V c main_call0_v22 (ix2 a b) := by
  blk_point [iblk1, idx1 p]

theorem blk1_4 (c : Dev nD) (p : Fin cfg1.N) (b : Fin 256) :
    iblk1 V c 4 p (ix2 0 b) = V c main_call0_v23 (ix2 0 b) := by
  blk_point [iblk1, idx1 p]

theorem blk1_5 (c : Dev nD) (p : Fin cfg1.N) (a : Fin 256) (b : Fin 64) :
    iblk1 V c 5 p (ix2 a b) = V c main_call0_v24 (ix2 a b) := by
  blk_point [iblk1, idx1 p]

theorem blk1_6 (c : Dev nD) (p : Fin cfg1.N) (b : Fin 64) :
    iblk1 V c 6 p (ix2 0 b) = V c main_call0_v25 (ix2 0 b) := by
  blk_point [iblk1, idx1 p]

theorem place1_7 (p : Fin cfg1.N) (r : Fin 256) (t : Fin 20) (o : Fin 64) :
    (win1_7.blk p).view.emb (ix3 r t o)
      = (ix3 ⟨256 * p.val + r.val, by have := lt_4 p; omega⟩ t o : S1024x20x64.Idx) := by
  blk_ext [idx1 p]

/-- The features of sequence `t`, node by node. -/
def seqAt (c : Dev nD) (t : Fin 20) (n : ℕ) : Fin 256 → EReal :=
  fun q => if h : n < 1024 then V c main_call0_v5 (ix3 ⟨n, h⟩ t q) else 0

theorem seq_blk (c : Dev nD) (p : Fin cfg1.N) (r : Fin 256) (t : Fin 20) :
    (fun q => iblk1 V c 0 p (ix3 r t q)) = seqAt V c t (256 * p.val + r.val) := by
  funext q
  rw [blk1_0]
  unfold seqAt
  rw [dif_pos (by have := lt_4 p; omega : 256 * p.val + r.val < 1024)]

variable {Wih Whh : Mat 1024 256} {bih bhh : Fin 1024 → EReal}

/-- What the weights are in the arrays they are in the blocks. -/
theorem scaled_blk {c : Dev nD} (hs : Scaled (V c main_call0_v21) (V c main_call0_v14) Wih Whh bih bhh) (p : Fin cfg1.N) :
    Scaled (iblk1 V c 1 p) (iblk1 V c 2 p) Wih Whh bih bhh where
  inW q j := (blk1_1 V c p _ j).trans (hs.inW q j)
  hidW q j := (blk1_1 V c p _ j).trans (hs.hidW q j)
  bias j := (blk1_2 V c p j).trans (hs.bias j)

/-- A point's loop starts from the plain state after the nodes before it. -/
theorem enter_at (c : Dev nD) (t : Fin 20) (p : Fin cfg1.N)
    (h : p.val ≠ 0 → keptSeq (keptAt V c p.val) t = Spec.state Wih Whh bih bhh (seqAt V c t) (256 * p.val)) :
    seqSt (enter (grid1.coords p) (keptAt V c p.val)) t = Spec.state Wih Whh bih bhh (seqAt V c t) (256 * p.val) := by
  by_cases hp : p.val = 0
  · rw [enter_zero (isFirst_zero p hp), hp]
    rfl
  · rw [enter_later (not_first p hp), h hp]

theorem kept_at {c : Dev nD} (hs : Scaled (V c main_call0_v21) (V c main_call0_v14) Wih Whh bih bhh) (t : Fin 20) :
    ∀ n, n ≤ 4 → n ≠ 0 → keptSeq (keptAt V c n) t = Spec.state Wih Whh bih bhh (seqAt V c t) (256 * n)
  | 0, _, h => absurd rfl h
  | n + 1, hn, _ => by
    have ih := kept_at hs t n (by omega)
    have hl : n < cfg1.N := Nat.lt_of_lt_of_eq (by omega : n < 4) N_1.symm
    have e := keptAt_succ V c ⟨n, hl⟩
    rw [show keptAt V c (n + 1) = _ from e]
    unfold leave
    rw [leaveFrom_at]
    exact stAt_at (scaled_blk V hs ⟨n, hl⟩) _ _ t (seqAt V c t) (256 * n) (fun r => seq_blk V c ⟨n, hl⟩ r t)
      (enter_at V c t ⟨n, hl⟩ ih) 256 le_rfl

/-- The head's weights, as the call reads them. -/
def headAt (c : Dev nD) : (Fin 256 → EReal) → Fin 64 → EReal :=
  Spec.head (fun a b => V c main_call0_v22 (ix2 a b)) (fun b => V c main_call0_v23 (ix2 0 b))
    (fun a b => V c main_call0_v24 (ix2 a b)) (fun b => V c main_call0_v25 (ix2 0 b))

theorem out_at {c : Dev nD} (hs : Scaled (V c main_call0_v21) (V c main_call0_v14) Wih Whh bih bhh) (p : Fin cfg1.N)
    (r : Fin 256) (t : Fin 20) (o : Fin 64) :
    outAt V c p (ix3 r t o)
      = headAt V c (Spec.state Wih Whh bih bhh (seqAt V c t) (256 * p.val + r.val + 1)).1 o := by
  unfold outAt outBlk
  rw [outOf_at]
  have e : (fun q => histFrom (iblk1 V c 0 p) (iblk1 V c 1 p) (iblk1 V c 2 p) (enter (grid1.coords p) (keptAt V c p.val)) (ix3 r t q))
      = (Spec.state Wih Whh bih bhh (seqAt V c t) (256 * p.val + r.val + 1)).1 := by
    funext q
    rw [hist_at]
    have h := stAt_at (scaled_blk V hs p) (iblk1 V c 0 p) (enter (grid1.coords p) (keptAt V c p.val)) t (seqAt V c t) (256 * p.val)
      (fun r => seq_blk V c p r t)
      (enter_at V c t p fun h => kept_at V hs t p.val (Nat.le_of_lt (lt_4 p)) h) (r.val + 1) (by omega)
    exact congrFun (congrArg Prod.fst h) q
  rw [e]
  simp only [blk1_3, blk1_4, blk1_5, blk1_6]
  rfl

/-- The result at node `n`, sequence `t` and output `o`. -/
def lstmAt (Wih Whh : Mat 1024 256) (bih bhh : Fin 1024 → EReal) (c : Dev nD) (n : Fin 1024) (t : Fin 20) (o : Fin 64) : EReal :=
  headAt V c (Spec.state Wih Whh bih bhh (seqAt V c t) (n.val + 1)).1 o

theorem outAt_eq {c : Dev nD} (hs : Scaled (V c main_call0_v21) (V c main_call0_v14) Wih Whh bih bhh) (p : Fin cfg1.N)
    (r : Fin 256) (t : Fin 20) (o : Fin 64) :
    outAt V c p (ix3 r t o) = lstmAt V Wih Whh bih bhh c ⟨256 * p.val + r.val, by have := lt_4 p; omega⟩ t o :=
  out_at V hs p r t o

theorem idx_split (y : S256x20x64.Idx) : ∃ (r : Fin 256) (t : Fin 20) (o : Fin 64), y = ix3 r t o := by
  refine ⟨y 0, y 1, y 2, ?_⟩
  funext a
  fin_cases a <;> rfl

/-- The result's array, as a function of its index. -/
def lstmArr (Wih Whh : Mat 1024 256) (bih bhh : Fin 1024 → EReal) (c : Dev nD) : Vec Ideal S1024x20x64 .f32 :=
  fun y => lstmAt V Wih Whh bih bhh c (y 0) (y 1) (y 2)

theorem lstm_arr {c : Dev nD} (hs : Scaled (V c main_call0_v21) (V c main_call0_v14) Wih Whh bih bhh) :
    (dat1 V c).arrAt 7 cfg1.N = lstmArr V Wih Whh bih bhh c := by
  refine (dat1 V c).arrAt_eq_of_covers 7 _ (by decide +kernel) fun p _ y => ?_
  blk_simp
  rw [after1_7]
  obtain ⟨r, t, o, rfl⟩ := idx_split y
  rw [place1_7]
  exact outAt_eq V hs p r t o

end Cert.KernelIdeal.Run

end
-- ==== Proof.Result.lean ====
module

public import proofs.«01_k».proof.Proof.Spec
public import Idealize.ShloMosaic.Lib.Pipeline.ValueKit

/-!
# The result as a function of the arguments' arrays

Both programs' results are shown equal to `Spec.result`.
-/

@[expose] public section

noncomputable section

namespace Cert.Spec

open Idealize.ShloMosaic

variable (a0 : Vec Ideal ⟨3, ![20, 1024, 16]⟩ .f32) (a1 : Vec Ideal ⟨3, ![20, 1024, 1024]⟩ .f32)
  (a3 : Vec Ideal ⟨2, ![16, 256]⟩ .f32) (a4 : Vec Ideal ⟨1, ![256]⟩ .f32) (a5 : Vec Ideal ⟨2, ![256, 256]⟩ .f32)
  (a6 : Vec Ideal ⟨1, ![256]⟩ .f32) (a7 a8 : Vec Ideal ⟨2, ![1024, 256]⟩ .f32) (a9 a10 : Vec Ideal ⟨1, ![1024]⟩ .f32)
  (a11 : Vec Ideal ⟨2, ![256, 256]⟩ .f32) (a12 : Vec Ideal ⟨1, ![256]⟩ .f32) (a13 : Vec Ideal ⟨2, ![256, 64]⟩ .f32)
  (a14 : Vec Ideal ⟨1, ![64]⟩ .f32)

/-- The features of graph `t`'s nodes after both layers. -/
def features (t : Fin 20) : Mat 1024 256 :=
  gcn (fun i j => a1 (ix3 t i j)) (fun k p => a0 (ix3 t k p)) (fun p h => a3 (ix2 p h)) (fun h => a4 (ix1 h))
    (fun q h => a5 (ix2 q h)) (fun h => a6 (ix1 h))

/-- A graph's nodes as a sequence, zero beyond the last. -/
def rows (x : Mat 1024 256) (n : ℕ) : Fin 256 → EReal := fun q => if h : n < 1024 then x ⟨n, h⟩ q else 0

/-- The state after the first `n` nodes. -/
def hidden (x : Mat 1024 256) (n : ℕ) : HC :=
  state (fun j q => a7 (ix2 j q)) (fun j q => a8 (ix2 j q)) (fun j => a9 (ix1 j)) (fun j => a10 (ix1 j)) (rows x) n

/-- The head on a hidden state. -/
def dense (h : Fin 256 → EReal) (o : Fin 64) : EReal :=
  head (fun a b => a11 (ix2 a b)) (fun b => a12 (ix1 b)) (fun b o => a13 (ix2 b o)) (fun o => a14 (ix1 o)) h o

/-- The result at scene `b`, node `n` of the scene, graph `t` and output `o`. -/
def resultAt (b : Fin 8) (n : Fin 128) (t : Fin 20) (o : Fin 64) : EReal :=
  dense a11 a12 a13 a14 (hidden a7 a8 a9 a10 (features a0 a1 a3 a4 a5 a6 t) (b.val * 128 + n.val + 1)).1 o

/-- The result's array. -/
def result : Vec Ideal ⟨4, ![8, 128, 20, 64]⟩ .f32 := fun y =>
  resultAt a0 a1 a3 a4 a5 a6 a7 a8 a9 a10 a11 a12 a13 a14 (y 0) (y 1) (y 2) (y 3)

end Cert.Spec

end
-- ==== Proof.KernelValue.lean ====
module

public import proofs.«01_k».proof.Proof.GcnValue
public import proofs.«01_k».proof.Proof.LstmValue
public import proofs.«01_k».proof.Proof.Run
public import proofs.«01_k».proof.Proof.Result
public import Idealize.ShloMosaic.Lib.Pipeline.ValueKit
public import Idealize.ShloMosaic.Lib.Pointwise
public import Idealize.ShloMosaic.Lib.StableHlo.ReadAt

/-!
# The kernel's result as a function of its arguments
-/

@[expose] public section

set_option maxRecDepth 16384

noncomputable section

namespace Cert.KernelIdeal.Run

open Cert.KernelIdeal Cert.KernelIdeal.Gen Cert.KernelIdeal.Lstm
open Idealize.ShloMosaic Idealize.ShloMosaic.TcCoe Idealize.ShloMosaic.Tactic
open Idealize.SL.Sem
open Cert.Spec (Mat HC)

/-! ## The operations around the calls, at any contents `X` -/

variable (X : Valuation τ sig (Elt Ideal))

theorem host0_v0 (p : Fin 16) (h : Fin 256) : StableHlo.after hostOps0 X (Proc.devRef .tc main_call0_v0) (ix2 p h)
    = X (Proc.devRef .tc main_arg3) (ix2 p h) := by
  after_reads_at

theorem host0_v1 (h : Fin 256) : StableHlo.after hostOps0 X (Proc.devRef .tc main_call0_v1) (ix2 0 h)
    = X (Proc.devRef .tc main_arg4) (ix1 h) := by
  after_reads_at

theorem host1_v5 (n : Fin 1024) (t : Fin 20) (q : Fin 256) :
    StableHlo.after hostOps1 X (Proc.devRef .tc main_call0_v5) (ix3 n t q)
      = X (Proc.devRef .tc main_call0_v4) (ix3 t n q) := by
  after_reads_at

theorem host1_v22 (a b : Fin 256) : StableHlo.after hostOps1 X (Proc.devRef .tc main_call0_v22) (ix2 a b)
    = X (Proc.devRef .tc main_arg11) (ix2 a b) := by
  after_reads_at

theorem host0_v2 (q h : Fin 256) : StableHlo.after hostOps0 X (Proc.devRef .tc main_call0_v2) (ix2 q h)
    = X (Proc.devRef .tc main_arg5) (ix2 q h) := by
  after_reads_at

theorem host0_v3 (h : Fin 256) : StableHlo.after hostOps0 X (Proc.devRef .tc main_call0_v3) (ix2 0 h)
    = X (Proc.devRef .tc main_arg6) (ix1 h) := by
  after_reads_at

theorem host1_v23 (b : Fin 256) : StableHlo.after hostOps1 X (Proc.devRef .tc main_call0_v23) (ix2 0 b)
    = X (Proc.devRef .tc main_arg12) (ix1 b) := by
  after_reads_at

theorem host1_v24 (b : Fin 256) (o : Fin 64) : StableHlo.after hostOps1 X (Proc.devRef .tc main_call0_v24) (ix2 b o)
    = X (Proc.devRef .tc main_arg13) (ix2 b o) := by
  after_reads_at

theorem host1_v25 (o : Fin 64) : StableHlo.after hostOps1 X (Proc.devRef .tc main_call0_v25) (ix2 0 o)
    = X (Proc.devRef .tc main_arg14) (ix1 o) := by
  after_reads_at

theorem host2_v0 (b : Fin 8) (n : Fin 128) (t : Fin 20) (o : Fin 64) :
    StableHlo.after hostOps2 X (Proc.devRef .tc main_v0) (ix4 b n t o)
      = X (Proc.devRef .tc main_call0_v26) (ix3 ⟨b.val * 128 + n.val, by omega⟩ t o) := by
  after_reads_at

/-- The factors of the input and forget gates, of the candidate and of the output gate, before they are joined:
one half, one and one half (`upto_v9`, `upto_v7`, `upto_v10`). -/
theorem upto_v9 (i : Fin 512) : StableHlo.upto hostOps1 X 9 (Proc.devRef .tc main_call0_v9) (ix1 i) = ((1 / 2 : ℝ) : EReal) := by
  rw [← Spec.half_lit]
  unfold StableHlo.upto
  simp only [hostOps1, List.take]
  after_reads_at
  rfl

theorem upto_v7 (i : Fin 256) : StableHlo.upto hostOps1 X 9 (Proc.devRef .tc main_call0_v7) (ix1 i) = (1 : EReal) := by
  unfold StableHlo.upto
  simp only [hostOps1, List.take]
  after_reads_at

theorem upto_v10 (i : Fin 256) : StableHlo.upto hostOps1 X 9 (Proc.devRef .tc main_call0_v10) (ix1 i) = ((1 / 2 : ℝ) : EReal) := by
  rw [← Spec.half_lit]
  unfold StableHlo.upto
  simp only [hostOps1, List.take]
  after_reads_at
  rfl

/-- Joined, they are `scale`. -/
theorem host1_v11 (j : Fin 1024) : StableHlo.after hostOps1 X (Proc.devRef .tc main_call0_v11) (ix1 j) = scale j := by
  after_reads_at
  split
  · rename_i h
    rw [scale_half (by omega)]
    exact upto_v9 X ⟨j.val, h⟩
  · rename_i h
    split
    · rename_i h'
      rw [scale_one (by omega)]
      exact upto_v7 X ⟨j.val - 512, h'⟩
    · rename_i h'
      rw [scale_half (by omega)]
      exact upto_v10 X ⟨j.val - 512 - 256, by omega⟩

/-- The joined bias: the sum of the two, scaled. -/
theorem host1_v14 (j : Fin 1024) (a b : EReal) (ha : X (Proc.devRef .tc main_arg9) (ix1 j) = a)
    (hb : X (Proc.devRef .tc main_arg10) (ix1 j) = b) :
    StableHlo.after hostOps1 X (Proc.devRef .tc main_call0_v14) (ix2 0 j) = (a + b) * scale j := by
  rw [← ha, ← hb, ← host1_v11 X j]
  after_reads_at

/-- The two recurrent weights transposed, before they are joined (`upto_v16`, `upto_v15`), -/
theorem upto_v16 (q : Fin 256) (j : Fin 1024) :
    StableHlo.upto hostOps1 X 15 (Proc.devRef .tc main_call0_v16) (ix2 q j) = X (Proc.devRef .tc main_arg8) (ix2 j q) := by
  unfold StableHlo.upto
  simp only [hostOps1, List.take]
  after_reads_at

theorem upto_v15 (q : Fin 256) (j : Fin 1024) :
    StableHlo.upto hostOps1 X 15 (Proc.devRef .tc main_call0_v15) (ix2 q j) = X (Proc.devRef .tc main_arg7) (ix2 j q) := by
  unfold StableHlo.upto
  simp only [hostOps1, List.take]
  after_reads_at

/-- and joined and scaled: the upper half is the input weights (`host1_v21_in`), the lower the hidden ones. -/
theorem host1_v21_in (q : Fin 256) (j : Fin 1024) (a : EReal) (ha : X (Proc.devRef .tc main_arg7) (ix2 j q) = a) :
    StableHlo.after hostOps1 X (Proc.devRef .tc main_call0_v21) (ix2 ⟨q.val, by omega⟩ j) = a * scale j := by
  rw [← ha, ← host1_v11 X j]
  after_reads_at
  exact congrArg (fun y : EReal => y * _) (upto_v15 X q j)

theorem host1_v21_hid (q : Fin 256) (j : Fin 1024) (a : EReal) (ha : X (Proc.devRef .tc main_arg8) (ix2 j q) = a) :
    StableHlo.after hostOps1 X (Proc.devRef .tc main_call0_v21) (ix2 ⟨256 + q.val, by omega⟩ j) = a * scale j := by
  rw [← ha, ← host1_v11 X j]
  after_reads_at
  exact congrArg (fun y : EReal => y * _) (upto_v16 X q j)

/-! ## The run's buffers -/

variable (m : (ℓ : Loc nD τ sig) → Buf (Elt Ideal) ℓ) (ρ : Dev nD → PrngReg) (c : Dev nD)

/-- An argument as launched. -/
abbrev arg (r : Ref sig .tc) : Buf (Elt Ideal) ((c : Thread nD τ).loc r) := m ((c : Thread nD τ).loc r)

/-- The graph layers' features, of the arguments. -/
abbrev feats (t : Fin 20) : Mat 1024 256 :=
  Spec.features (arg m c main_arg0) (arg m c main_arg1) (arg m c main_arg3) (arg m c main_arg4) (arg m c main_arg5) (arg m c main_arg6) t

/-- The first call's aggregate, of the buffers it is entered with, is `feats` of the arguments. -/
theorem gcnAt_V1 (t : Fin 20) : gcnAt (V1 m ρ) c t = feats m c t := by
  have e1 := W1_args m ρ c main_arg1 (by decide)
  have e0 := W1_args m ρ c main_arg0 (by decide)
  have h1 : (fun i j => V1 m ρ c main_arg1 (ix3 t i j)) = fun i j => arg m c main_arg1 (ix3 t i j) := by
    funext i j; exact congrFun e1 (ix3 t i j)
  have h0 : (fun k p => V1 m ρ c main_arg0 (ix3 t k p)) = fun k p => arg m c main_arg0 (ix3 t k p) := by
    funext k p; exact congrFun e0 (ix3 t k p)
  have h3 : (fun p h => V1 m ρ c main_call0_v0 (ix2 p h)) = fun p h => arg m c main_arg3 (ix2 p h) := by
    funext p h; exact host0_v0 (W0 m ρ c) p h
  have h4 : (fun h => V1 m ρ c main_call0_v1 (ix2 0 h)) = fun h => arg m c main_arg4 (ix1 h) := by
    funext h; exact host0_v1 (W0 m ρ c) h
  have h5 : (fun q h => V1 m ρ c main_call0_v2 (ix2 q h)) = fun q h => arg m c main_arg5 (ix2 q h) := by
    funext q h; exact host0_v2 (W0 m ρ c) q h
  have h6 : (fun h => V1 m ρ c main_call0_v3 (ix2 0 h)) = fun h => arg m c main_arg6 (ix1 h) := by
    funext h; exact host0_v3 (W0 m ρ c) h
  unfold gcnAt
  rw [h1, h0, h3, h4, h5, h6]
  rfl

/-- The second call's input: the features, with the node as the first axis. -/
theorem W3_v5 (n : Fin 1024) (t : Fin 20) (q : Fin 256) :
    W3 m ρ c (Proc.devRef .tc main_call0_v5) (ix3 n t q) = feats m c t n q :=
  (host1_v5 (W2 m ρ c) n t q).trans ((congrFun ((W2_arr m ρ c 6).trans (gcn_arr (V1 m ρ) c)) (ix3 t n q)).trans
    (congrFun (congrFun (gcnAt_V1 m ρ c t) n) q))

/-- The second call's weights, as the first dimension's two halves and scaled. -/
theorem scaled_V3 : Scaled (V3 m ρ c main_call0_v21) (V3 m ρ c main_call0_v14) (fun j q => arg m c main_arg7 (ix2 j q))
    (fun j q => arg m c main_arg8 (ix2 j q)) (fun j => arg m c main_arg9 (ix1 j)) (fun j => arg m c main_arg10 (ix1 j)) where
  inW q j := host1_v21_in (W2 m ρ c) q j _ (congrFun (W2_args m ρ c main_arg7 (by decide)) _)
  hidW q j := host1_v21_hid (W2 m ρ c) q j _ (congrFun (W2_args m ρ c main_arg8 (by decide)) _)
  bias j := host1_v14 (W2 m ρ c) j _ _ (congrFun (W2_args m ρ c main_arg9 (by decide)) _)
    (congrFun (W2_args m ρ c main_arg10 (by decide)) _)

/-- The sequences the second call runs over. -/
theorem seqAt_V3 (t : Fin 20) : seqAt (V3 m ρ) c t = Spec.rows (feats m c t) := by
  funext n q
  unfold seqAt Spec.rows
  by_cases h : n < 1024
  · rw [dif_pos h, dif_pos h]; exact W3_v5 m ρ c ⟨n, h⟩ t q
  · rw [dif_neg h, dif_neg h]

/-- The head the second call applies. -/
theorem headAt_V3 (h : Fin 256 → EReal) (o : Fin 64) : headAt (V3 m ρ) c h o
    = Spec.dense (arg m c main_arg11) (arg m c main_arg12) (arg m c main_arg13) (arg m c main_arg14) h o := by
  have h11 : (fun a b => V3 m ρ c main_call0_v22 (ix2 a b)) = fun a b => arg m c main_arg11 (ix2 a b) := by
    funext a b; exact (host1_v22 (W2 m ρ c) a b).trans (congrFun (W2_args m ρ c main_arg11 (by decide)) _)
  have h12 : (fun b => V3 m ρ c main_call0_v23 (ix2 0 b)) = fun b => arg m c main_arg12 (ix1 b) := by
    funext b; exact (host1_v23 (W2 m ρ c) b).trans (congrFun (W2_args m ρ c main_arg12 (by decide)) _)
  have h13 : (fun b o => V3 m ρ c main_call0_v24 (ix2 b o)) = fun b o => arg m c main_arg13 (ix2 b o) := by
    funext b o; exact (host1_v24 (W2 m ρ c) b o).trans (congrFun (W2_args m ρ c main_arg13 (by decide)) _)
  have h14 : (fun o => V3 m ρ c main_call0_v25 (ix2 0 o)) = fun o => arg m c main_arg14 (ix1 o) := by
    funext o; exact (host1_v25 (W2 m ρ c) o).trans (congrFun (W2_args m ρ c main_arg14 (by decide)) _)
  unfold headAt
  rw [h11, h12, h13, h14]
  rfl

/-- The kernel's result is the plain mathematics of its arguments. -/
theorem value : W5 m ρ c (Proc.devRef .tc main_v0) = Spec.result (arg m c main_arg0) (arg m c main_arg1) (arg m c main_arg3)
    (arg m c main_arg4) (arg m c main_arg5) (arg m c main_arg6) (arg m c main_arg7) (arg m c main_arg8) (arg m c main_arg9)
    (arg m c main_arg10) (arg m c main_arg11) (arg m c main_arg12) (arg m c main_arg13) (arg m c main_arg14) := by
  have key : ∀ (b : Fin 8) (n : Fin 128) (t : Fin 20) (o : Fin 64), W5 m ρ c (Proc.devRef .tc main_v0) (ix4 b n t o)
      = Spec.resultAt (arg m c main_arg0) (arg m c main_arg1) (arg m c main_arg3)
    (arg m c main_arg4) (arg m c main_arg5) (arg m c main_arg6) (arg m c main_arg7) (arg m c main_arg8) (arg m c main_arg9)
    (arg m c main_arg10) (arg m c main_arg11) (arg m c main_arg12) (arg m c main_arg13) (arg m c main_arg14) b n t o := by
    intro b n t o
    refine (host2_v0 (W4 m ρ c) b n t o).trans ?_
    refine (congrFun ((W4_arr m ρ c 7).trans (lstm_arr (V3 m ρ) (scaled_V3 m ρ c))) (ix3 ⟨b.val * 128 + n.val, by omega⟩ t o)).trans ?_
    show lstmAt (V3 m ρ) _ _ _ _ c ⟨b.val * 128 + n.val, _⟩ t o = _
    unfold lstmAt
    rw [seqAt_V3, headAt_V3]
    rfl
  funext y
  have e : y = ix4 (y 0) (y 1) (y 2) (y 3) := by
    funext a
    fin_cases a <;> rfl
  rw [e]
  exact key (y 0) (y 1) (y 2) (y 3)

end Cert.KernelIdeal.Run

end
-- ==== Proof.RefValue.lean ====
module

public import proofs.«01_k».proof.Proof.Spec
public import proofs.«01_k».proof.Proof.Gen.ReferenceIdeal.Run
public import Idealize.ShloMosaic.Lib.Pipeline.ValueKit
public import Idealize.ShloMosaic.Lib.Pointwise

/-!
# The reference's recurrence

Its loop carries a counter, both states and the history of hidden states; one trip is one step of the plain recurrence
in each of the 20 sequences.
-/

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.Tactic
open Idealize.SL.Sem
open Cert.Spec (Mat HC)

variable (X : Valuation τ sig (Elt Ideal))

/-- The counter, and the three starts of a trip's slice. -/
abbrev starts : Fin 3 → Int :=
  fun k => (((![X (Proc.devRef .tc main_v40_5), constantI S_ 32 0#32, constantI S_ 32 0#32] : Fin 3 → (⟨S_, .i32⟩ : BufTy).Contents (Elt Ideal))) k
    (Shape.Idx.first h_S_)).toInt

variable {X}

theorem starts_eq {k : ℕ} (hk : k < 1024) (hc : X (Proc.devRef .tc main_v40_5) = fun _ => BitVec.ofNat 32 k) :
    ∀ a, starts X a = ((![k, 0, 0] : Fin 3 → ℕ) a : Int) := by
  intro a
  fin_cases a
  · show (X (Proc.devRef .tc main_v40_5) (Shape.Idx.first h_S_) : BitVec 32).toInt = (k : Int)
    rw [hc]
    show (BitVec.ofNat 32 k).toInt = (k : Int)
    rw [BitVec.toInt_eq_toNat_of_lt (by simp only [BitVec.toNat_ofNat]; omega), BitVec.toNat_ofNat]
    omega
  · rfl
  · rfl

/-- The weights the loop carries. -/
abbrev Wih (X : Valuation τ sig (Elt Ideal)) : Mat 1024 256 := fun j q => X (Proc.devRef .tc main_v40_1) (ix2 j q)
abbrev Whh (X : Valuation τ sig (Elt Ideal)) : Mat 1024 256 := fun j q => X (Proc.devRef .tc main_v40_2) (ix2 j q)
abbrev bih (X : Valuation τ sig (Elt Ideal)) : Fin 1024 → EReal := fun j => X (Proc.devRef .tc main_v40_3) (ix1 j)
abbrev bhh (X : Valuation τ sig (Elt Ideal)) : Fin 1024 → EReal := fun j => X (Proc.devRef .tc main_v40_4) (ix1 j)
/-- Sequence `t`'s state in the carried buffers. -/
abbrev seqSt (X : Valuation τ sig (Elt Ideal)) (t : Fin 20) : HC :=
  (fun q => X (Proc.devRef .tc main_v40_6) (ix2 t q), fun q => X (Proc.devRef .tc main_v40_7) (ix2 t q))
/-- Node `k`'s features in sequence `t`. -/
abbrev feat (X : Valuation τ sig (Elt Ideal)) (t : Fin 20) (k : Fin 1024) : Fin 256 → EReal :=
  fun q => X (Proc.devRef .tc main_v40_0) (ix3 k t q)

theorem slice_eq {k : ℕ} (hk : k < 1024) (hc : X (Proc.devRef .tc main_v40_5) = fun _ => BitVec.ofNat 32 k) (t : Fin 20) (q : Fin 256) :
    Host.dynamicSlice S1x20x256 (X (Proc.devRef .tc main_v40_0) : Vec Ideal S1024x20x256 .f32) (starts X) sliceFits_S1024x20x256_S1x20x256 (ix3 0 t q)
      = feat X t ⟨k, hk⟩ q := by
  rw [Host.dynamicSlice_apply]
  show X (Proc.devRef .tc main_v40_0) _ = X (Proc.devRef .tc main_v40_0) _
  congr 1
  funext a
  apply Fin.ext
  have e := fun a h => Host.clampedStart_of_le (s := S1024x20x256) (t := S1x20x256) rfl (starts X) a ((![k, 0, 0] : Fin 3 → ℕ) a) (starts_eq hk hc a) h
  fin_cases a
  · have := e 0 (by show k + 1 ≤ 1024; omega)
    show Host.clampedStart S1024x20x256 S1x20x256 _ (starts X) 0 + 0 = k
    rw [this]; rfl
  · have := e 1 (by show 0 + 20 ≤ 20; omega)
    show Host.clampedStart S1024x20x256 S1x20x256 _ (starts X) 1 + t.val = t.val
    rw [this]; exact Nat.zero_add _
  · have := e 2 (by show 0 + 256 ≤ 256; omega)
    show Host.clampedStart S1024x20x256 S1x20x256 _ (starts X) 2 + q.val = q.val
    rw [this]; exact Nat.zero_add _

theorem gates_at {k : ℕ} (hk : k < 1024) (hc : X (Proc.devRef .tc main_v40_5) = fun _ => BitVec.ofNat 32 k) (t : Fin 20) (j : Fin 1024) :
    res_main_while0b_v62 X (ix2 t j) = Spec.gate (Wih X) (Whh X) (bih X) (bhh X) (feat X t ⟨k, hk⟩) (seqSt X t).1 j := by
  unfold res_main_while0b_v62
  generalize hB : Host.dynamicSlice S1x20x256 (X (Proc.devRef .tc main_v40_0)) _ _ = B
  have hf : ∀ q, B (ix3 0 t q) = feat X t ⟨k, hk⟩ q := by
    intro q
    rw [← hB]
    exact slice_eq hk hc t q
  unfold Spec.gate
  simp only [← hf]
  pointwise []

theorem newC_at {k : ℕ} (hk : k < 1024) (hc : X (Proc.devRef .tc main_v40_5) = fun _ => BitVec.ofNat 32 k) (t : Fin 20) (j : Fin 256) :
    res_main_while0b_v88 X (ix2 t j)
      = Spec.newC (Spec.gate (Wih X) (Whh X) (bih X) (bhh X) (feat X t ⟨k, hk⟩) (seqSt X t).1) (seqSt X t).2 j := by
  have e : ∀ g : Fin 1024 → EReal, (∀ j, res_main_while0b_v62 X (ix2 t j) = g j) →
      res_main_while0b_v88 X (ix2 t j)
        = Ideal.div 1 (1 + Ideal.exp (-(g (Spec.qF j)))) * (seqSt X t).2 j
          + Ideal.div 1 (1 + Ideal.exp (-(g (Spec.qI j)))) * Ideal.tanh (g (Spec.qG j)) := by
    intro g hg
    rw [← hg, ← hg, ← hg]
    pointwise [res_main_while0b_v88]
  exact e _ (gates_at hk hc t)

theorem newH_at {k : ℕ} (hk : k < 1024) (hc : X (Proc.devRef .tc main_v40_5) = fun _ => BitVec.ofNat 32 k) (t : Fin 20) (j : Fin 256) :
    res_main_while0b_v90 X (ix2 t j)
      = Spec.newH (Spec.gate (Wih X) (Whh X) (bih X) (bhh X) (feat X t ⟨k, hk⟩) (seqSt X t).1) (seqSt X t).2 j := by
  have e : ∀ (g : Fin 1024 → EReal) (c' : EReal), (∀ j, res_main_while0b_v62 X (ix2 t j) = g j) →
      res_main_while0b_v88 X (ix2 t j) = c' →
      res_main_while0b_v90 X (ix2 t j)
        = Ideal.div 1 (1 + Ideal.exp (-(g (Spec.qO j)))) * Ideal.tanh c' := by
    intro g c' hg hc'
    rw [← hg, ← hc']
    pointwise [res_main_while0b_v90]
  exact e _ _ (gates_at hk hc t) (newC_at hk hc t j)

/-- A trip is one step of the plain recurrence in every sequence, -/
theorem step_at {k : ℕ} (hk : k < 1024) (hc : X (Proc.devRef .tc main_v40_5) = fun _ => BitVec.ofNat 32 k) (t : Fin 20) :
    ((fun q => step_main_v40_6 X (ix2 t q), fun q => step_main_v40_7 X (ix2 t q)) : HC)
      = Spec.step (Wih X) (Whh X) (bih X) (bhh X) (feat X t ⟨k, hk⟩) (seqSt X t) :=
  Prod.ext (funext fun q => newH_at hk hc t q) (funext fun q => newC_at hk hc t q)

/-- and writes the new hidden state as the counter's row of the history. -/
theorem hist_at {k : ℕ} (hk : k < 1024) (hc : X (Proc.devRef .tc main_v40_5) = fun _ => BitVec.ofNat 32 k) (n : Fin 1024) (t : Fin 20) (q : Fin 256) :
    step_main_v40_8 X (ix3 n t q)
      = if n.val = k then res_main_while0b_v90 X (ix2 t q) else X (Proc.devRef .tc main_v40_8) (ix3 n t q) := by
  have e := fun a h => Host.clampedStart_of_le (s := S1024x20x256) (t := S1x20x256) rfl (starts X) a ((![k, 0, 0] : Fin 3 → ℕ) a) (starts_eq hk hc a) h
  have e0 := e 0 (by show k + 1 ≤ 1024; omega)
  have e1 := e 1 (by show 0 + 20 ≤ 20; omega)
  have e2 := e 2 (by show 0 + 256 ≤ 256; omega)
  unfold step_main_v40_8
  show Host.dynamicUpdateSlice (X (Proc.devRef .tc main_v40_8) : Vec Ideal S1024x20x256 .f32) _ (starts X) updateFits_S1024x20x256_S1x20x256 (ix3 n t q) = _
  rw [Host.dynamicUpdateSlice_apply]
  by_cases hn : n.val = k
  · rw [if_pos hn, dif_pos (by
      intro a
      fin_cases a
      · exact ⟨Nat.le_of_eq (e0.trans hn.symm), Nat.lt_of_lt_of_eq (by omega : n.val < k + 1) (congrArg (· + 1) e0).symm⟩
      · exact ⟨Nat.le_trans (Nat.le_of_eq e1) (Nat.zero_le t.val),
          Nat.lt_of_lt_of_eq (by omega : t.val < 0 + 20) (congrArg (· + 20) e1).symm⟩
      · exact ⟨Nat.le_trans (Nat.le_of_eq e2) (Nat.zero_le q.val),
          Nat.lt_of_lt_of_eq (by omega : q.val < 0 + 256) (congrArg (· + 256) e2).symm⟩)]
    have row : ∀ z : Vec Ideal S20x256 .f32, ∀ y : S1x20x256.Idx, (y 1).val = t.val → (y 2).val = q.val →
        broadcastInDim S1x20x256 ![1, 2] bcast_S20x256_S1x20x256_1_2 z y = z (ix2 t q) := by
      intro z y h1 h2
      have ey : y = ix3 0 t q := by
        funext a
        apply Fin.ext
        fin_cases a
        · have : (y 0).val < 1 := (y 0).isLt
          show (y 0).val = 0; omega
        · exact h1
        · exact h2
      rw [ey]
      pointwise []
    exact row _ _ ((congrArg (t.val - ·) e1).trans (Nat.sub_zero _)) ((congrArg (q.val - ·) e2).trans (Nat.sub_zero _))
  · rw [if_neg hn, dif_neg]
    intro h
    have h1 : k ≤ n.val := Nat.le_trans (Nat.le_of_eq e0.symm) (h 0).1
    have h2 : n.val < k + 1 := Nat.lt_of_lt_of_eq (h 0).2 (congrArg (· + 1) e0)
    omega

end Cert.ReferenceIdeal.Value

end
-- ==== Proof.RefEntry.lean ====
module

public import proofs.«01_k».proof.Proof.Spec
public import proofs.«01_k».proof.Proof.Gen.ReferenceIdeal.Run
public import Idealize.ShloMosaic.Lib.Pipeline.ValueKit
public import Idealize.ShloMosaic.Lib.Pointwise
public import Idealize.ShloMosaic.Lib.StableHlo.ReadAt

/-!
# The reference's graph layers

What the operations before the reference's loop leave in the buffers the loop carries.
-/

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.Tactic
open Idealize.SL.Sem
open Cert.Spec (Mat HC)

/-! ## Stretch by stretch, at any contents `X` -/

variable (X : Valuation τ sig (Elt Ideal))

/-- A truth value as a float. -/
theorem one_of_bit : (FloatOps.uitofp FTy.f32 (1#1) : Ideal FTy.f32) = (1 : EReal) := by
  show (((1 : ℕ) : ℝ) : EReal) = 1
  simp

theorem zero_of_bit : (FloatOps.uitofp FTy.f32 (0#1) : Ideal FTy.f32) = (0 : EReal) := by
  show (((0 : ℕ) : ℝ) : EReal) = 0
  simp

/-- An edge is a nonzero entry of the adjacency. -/
theorem ops0_v5 (t : Fin 20) (i j : Fin 1024) (a : EReal) (ha : X (Proc.devRef .tc main_arg1) (ix3 t i j) = a) :
    StableHlo.after hostOps0 X (Proc.devRef .tc main_v5) (ix3 t i j) = (if a ≠ 0 then 1 else 0 : EReal) := by
  rw [← ha]
  after_reads_at
  by_cases h : X (Proc.devRef .tc main_arg1) (ix3 t i j) = (0 : EReal)
  · rw [if_neg (not_not.mpr h), decide_eq_false (not_not.mpr h)]
    exact zero_of_bit
  · rw [if_pos h, decide_eq_true h]
    exact one_of_bit

/-- The diagonal. -/
theorem ops0_v10 (i j : Fin 1024) :
    StableHlo.after hostOps0 X (Proc.devRef .tc main_v10) (ix2 i j) = if i = j then 1#1 else 0#1 := by
  after_reads_at
  show BitVec.ofBool (decide (BitVec.ofNat 32 i.val + 0#32 = BitVec.ofNat 32 j.val)) = _
  by_cases h : i = j
  · subst h
    simp
  · rw [if_neg h, decide_eq_false]
    · rfl
    · intro e
      have := congrArg BitVec.toNat e
      simp only [BitVec.add_zero, BitVec.toNat_ofNat] at this
      exact h (Fin.ext (by omega))

/-- The mask as floats, where it keeps every node. -/
theorem ops0_v2 (ha : ∀ i, X (Proc.devRef .tc main_arg2) i = 1#1) (t : Fin 20) (n : Fin 1024) :
    StableHlo.after hostOps0 X (Proc.devRef .tc main_v2) (ix2 t n) = (1 : EReal) := by
  after_reads_at
  rw [ha]
  exact one_of_bit

theorem ops0_cst_0 : StableHlo.after hostOps0 X (Proc.devRef .tc main_cst_0) ix0 = (1 : EReal) := by
  after_reads_at

/-- The diagonal set to one. -/
theorem ops1_v11 (t : Fin 20) (i j : Fin 1024) (p : Prop) [Decidable p] (e : EReal)
    (h10 : X (Proc.devRef .tc main_v10) (ix2 i j) = if p then 1#1 else 0#1)
    (h5 : X (Proc.devRef .tc main_v5) (ix3 t i j) = e) (h1 : X (Proc.devRef .tc main_cst_0) ix0 = (1 : EReal)) :
    StableHlo.after hostOps0_1 X (Proc.devRef .tc main_v11) (ix3 t i j) = if p then 1 else e := by
  rw [← h5, ← h1]
  after_reads_at
  rw [h10]
  by_cases h : p
  · rw [if_pos h, if_pos h]; rfl
  · rw [if_neg h, if_neg h]; rfl

/-- The reciprocal root of the degree. -/
theorem ops2_v13 (t : Fin 20) (i : Fin 1024) (e : Mat 1024 1024) (he : ∀ i j, X (Proc.devRef .tc main_v11) (ix3 t i j) = e i j) :
    StableHlo.after hostOps0_2 X (Proc.devRef .tc main_v13) (ix2 t i) = Ideal.rsqrt (∑ j, e i j) := by
  simp only [← he]
  after_reads_at

/-- The normalised adjacency. -/
theorem ops2_v19 (t : Fin 20) (i j : Fin 1024) (e : EReal) (d : Fin 1024 → EReal)
    (he : X (Proc.devRef .tc main_v11) (ix3 t i j) = e)
    (hd : ∀ i, StableHlo.after hostOps0_2 X (Proc.devRef .tc main_v13) (ix2 t i) = d i) :
    StableHlo.after hostOps0_2 X (Proc.devRef .tc main_v19) (ix3 t i j) = d i * e * d j := by
  rw [← he, ← hd, ← hd]
  after_reads_at

/-- The first layer before its maximum with zero. -/
theorem ops2_v25 (t : Fin 20) (i : Fin 1024) (h : Fin 256) (A : Mat 1024 1024) (x : Mat 1024 16) (W : Mat 16 256) (b : EReal)
    (hA : ∀ i j, StableHlo.after hostOps0_2 X (Proc.devRef .tc main_v19) (ix3 t i j) = A i j)
    (hx : ∀ k q, X (Proc.devRef .tc main_arg0) (ix3 t k q) = x k q)
    (hW : ∀ q h, X (Proc.devRef .tc main_arg3) (ix2 q h) = W q h)
    (hb : X (Proc.devRef .tc main_arg4) (ix1 h) = b) :
    StableHlo.after hostOps0_2 X (Proc.devRef .tc main_v25) (ix3 t i h) = ∑ k, A i k * (∑ q, x k q * W q h) + b := by
  simp only [← hA, ← hx, ← hW, ← hb]
  after_reads_at

/-- The maximum with zero. -/
theorem ops3_v26 (t : Fin 20) (i : Fin 1024) (h : Fin 256) (a : EReal) (ha : X (Proc.devRef .tc main_v25) (ix3 t i h) = a) :
    StableHlo.after hostOps0_3 X (Proc.devRef .tc main_v26) (ix3 t i h) = max a 0 := by
  rw [← ha]
  after_reads_at

/-- The second layer times the mask, with the node as the first axis. -/
theorem ops4_v40_0 (t : Fin 20) (i : Fin 1024) (h : Fin 256) (A : Mat 1024 1024) (x : Mat 1024 256) (W : Mat 256 256) (b k : EReal)
    (hA : ∀ i j, X (Proc.devRef .tc main_v19) (ix3 t i j) = A i j)
    (hx : ∀ k q, X (Proc.devRef .tc main_v26) (ix3 t k q) = x k q)
    (hW : ∀ q h, X (Proc.devRef .tc main_arg5) (ix2 q h) = W q h)
    (hb : X (Proc.devRef .tc main_arg6) (ix1 h) = b)
    (hk : X (Proc.devRef .tc main_v2) (ix2 t i) = k) :
    StableHlo.after hostOps0_4 X (Proc.devRef .tc main_v40_0) (ix3 i t h) = (∑ k, A i k * (∑ q, x k q * W q h) + b) * k := by
  simp only [← hA, ← hx, ← hW, ← hb, ← hk]
  after_reads_at
  simp only [id]
  pointwise []

/-- The loop starts from zero states. -/
theorem ops4_v40_6 (t : Fin 20) (h : Fin 256) :
    StableHlo.after hostOps0_4 X (Proc.devRef .tc main_v40_6) (ix2 t h) = (0 : EReal) := by
  after_reads_at
  simp only [id]
  pointwise []

theorem ops4_v40_7 (t : Fin 20) (h : Fin 256) :
    StableHlo.after hostOps0_4 X (Proc.devRef .tc main_v40_7) (ix2 t h) = (0 : EReal) := by
  after_reads_at
  simp only [id]
  pointwise []

end Cert.ReferenceIdeal.Value

end
-- ==== Proof.RefLoop.lean ====
module

public import proofs.«01_k».proof.Proof.RefValue
public import proofs.«01_k».proof.Proof.RefEntry
public import proofs.«01_k».proof.Proof.Result

/-!
# The reference's result as a function of its arguments
-/

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.Tactic
open Idealize.SL.Sem
open Idealize.ShloMosaic.StableHlo
open Cert.Spec (Mat HC)

/-! ## The loop -/

/-- The state of sequence `t` after `k` trips from the contents `E`. -/
def stateOf (E : Valuation τ sig (Elt Ideal)) (t : Fin 20) (k : ℕ) : HC :=
  Spec.state (Wih E) (Whh E) (bih E) (bhh E) (Spec.rows fun n q => feat E t n q) k

/-- The contents `X` are the loop's after `k` trips from `E`. -/
structure Inv (E : Valuation τ sig (Elt Ideal)) (k : ℕ) (X : Valuation τ sig (Elt Ideal)) : Prop where
  x : X (Proc.devRef .tc main_v40_0) = E (Proc.devRef .tc main_v40_0)
  wih : X (Proc.devRef .tc main_v40_1) = E (Proc.devRef .tc main_v40_1)
  whh : X (Proc.devRef .tc main_v40_2) = E (Proc.devRef .tc main_v40_2)
  bih : X (Proc.devRef .tc main_v40_3) = E (Proc.devRef .tc main_v40_3)
  bhh : X (Proc.devRef .tc main_v40_4) = E (Proc.devRef .tc main_v40_4)
  ctr : X (Proc.devRef .tc main_v40_5) = fun _ => BitVec.ofNat 32 k
  st : ∀ t, seqSt X t = stateOf E t k
  hist : ∀ (n : Fin 1024), n.val < k → ∀ t q, X (Proc.devRef .tc main_v40_8) (ix3 n t q) = (stateOf E t (n.val + 1)).1 q

/-- One trip keeps the invariant. -/
theorem inv_step {E X : Valuation τ sig (Elt Ideal)} {k : ℕ} (hk : k < 1024) (h : Inv E k X) : Inv E (k + 1) (STEP X) := by
  have hs : ∀ t, Spec.step (Wih X) (Whh X) (Value.bih X) (Value.bhh X) (feat X t ⟨k, hk⟩) (seqSt X t) = stateOf E t (k + 1) := by
    intro t
    have eW : Wih X = Wih E := by unfold Wih; rw [h.wih]
    have eU : Whh X = Whh E := by unfold Whh; rw [h.whh]
    have eb : Value.bih X = Value.bih E := by unfold Value.bih; rw [h.bih]
    have ec : Value.bhh X = Value.bhh E := by unfold Value.bhh; rw [h.bhh]
    have ex : feat X t ⟨k, hk⟩ = Spec.rows (fun n q => feat E t n q) k := by
      funext q
      unfold Spec.rows
      rw [dif_pos hk]
      unfold feat
      rw [h.x]
    rw [eW, eU, eb, ec, ex, h.st t]
    rfl
  refine ⟨?_, ?_, ?_, ?_, ?_, ?_, ?_, ?_⟩
  · rw [STEP_main_v40_0, h.x]
  · rw [STEP_main_v40_1, h.wih]
  · rw [STEP_main_v40_2, h.whh]
  · rw [STEP_main_v40_3, h.bih]
  · rw [STEP_main_v40_4, h.bhh]
  · rw [STEP_main_v40_5]
    unfold step_main_v40_5
    rw [h.ctr]
    funext i
    show BitVec.ofNat 32 k + 1#32 = BitVec.ofNat 32 (k + 1)
    rw [BitVec.ofNat_add]
  · intro t
    rw [← hs t, ← step_at hk h.ctr t]
    unfold seqSt
    rw [STEP_main_v40_6, STEP_main_v40_7]
  · intro n hn t q
    rw [STEP_main_v40_8, hist_at hk h.ctr n t q]
    by_cases e : n.val = k
    · rw [if_pos e, e, ← hs t]
      exact newH_at hk h.ctr t q
    · rw [if_neg e]
      exact h.hist n (by omega) t q

/-- From a zero counter and zero states it holds after any number of trips up to 1024. -/
theorem inv_iter {E : Valuation τ sig (Elt Ideal)} (h5 : E (Proc.devRef .tc main_v40_5) = fun _ => 0#32)
    (h6 : ∀ t q, E (Proc.devRef .tc main_v40_6) (ix2 t q) = (0 : EReal))
    (h7 : ∀ t q, E (Proc.devRef .tc main_v40_7) (ix2 t q) = (0 : EReal)) : ∀ k, k ≤ 1024 → Inv E k (STEP^[k] E)
  | 0, _ => ⟨rfl, rfl, rfl, rfl, rfl, h5, fun t => Prod.ext (funext fun q => h6 t q) (funext fun q => h7 t q),
      fun n hn => absurd hn (Nat.not_lt_zero _)⟩
  | k + 1, hk => by
    rw [Function.iterate_succ_apply']
    exact inv_step (by omega) (inv_iter h5 h6 h7 k (by omega))

/-! ## The contents at the loop's entry -/

variable (m : (ℓ : Loc nD τ sig) → Buf (Elt Ideal) ℓ) (c : Dev nD)

/-- An argument as launched. -/
abbrev arg (r : Ref sig .tc) : Buf (Elt Ideal) ((c : Thread nD τ).loc r) := m ((c : Thread nD τ).loc r)

/-- The graph layers' features, of the arguments. -/
abbrev feats (t : Fin 20) : Mat 1024 256 :=
  Spec.features (arg m c main_arg0) (arg m c main_arg1) (arg m c main_arg3) (arg m c main_arg4) (arg m c main_arg5) (arg m c main_arg6) t

/-- The adjacency of graph `t`. -/
abbrev adj (t : Fin 20) : Mat 1024 1024 := fun i j => arg m c main_arg1 (ix3 t i j)

/-- The contents after each stretch before the loop. -/
abbrev Y0 : Valuation τ sig (Elt Ideal) := launchContents m c
abbrev Y1 : Valuation τ sig (Elt Ideal) := StableHlo.after hostOps0 (Y0 m c)
abbrev Y2 : Valuation τ sig (Elt Ideal) := StableHlo.after hostOps0_1 (Y1 m c)
abbrev Y3 : Valuation τ sig (Elt Ideal) := StableHlo.after hostOps0_2 (Y2 m c)
abbrev Y4 : Valuation τ sig (Elt Ideal) := StableHlo.after hostOps0_3 (Y3 m c)

/-- Arguments are as launched after the first two stretches (`Y2_arg`) and after four (`Y4_arg`). -/
theorem Y2_arg (r : Ref sig .tc) (h0 : r ∉ hostOps0_W) (h1 : r ∉ hostOps0_1_W) : Y2 m c (Proc.devRef .tc r) = arg m c r :=
  (after_of_writes_sub hostOps0_1 _ hostOps0_1_writes h1).trans (after_of_writes_sub hostOps0 _ hostOps0_writes h0)

theorem Y4_arg (r : Ref sig .tc) (h0 : r ∉ hostOps0_W) (h1 : r ∉ hostOps0_1_W) (h2 : r ∉ hostOps0_2_W) (h3 : r ∉ hostOps0_3_W) :
    Y4 m c (Proc.devRef .tc r) = arg m c r :=
  (after_of_writes_sub hostOps0_3 _ hostOps0_3_writes h3).trans
    ((after_of_writes_sub hostOps0_2 _ hostOps0_2_writes h2).trans (Y2_arg m c r h0 h1))

/-- The adjacency with self-loops, -/
theorem Y2_v11 (t : Fin 20) (i j : Fin 1024) : Y2 m c (Proc.devRef .tc main_v11) (ix3 t i j) = Spec.edge (adj m c t) i j := by
  refine (ops1_v11 (Y1 m c) t i j (i = j) _ (ops0_v10 _ i j) (ops0_v5 (Y0 m c) t i j _ rfl) (ops0_cst_0 _)).trans ?_
  unfold Spec.edge
  by_cases h : i = j
  · rw [if_pos h, if_pos (Or.inl h)]
  · rw [if_neg h]
    refine if_congr ?_ rfl rfl
    exact ⟨Or.inr, fun o => o.resolve_left h⟩

/-- normalised, -/
theorem Y3_v19 (t : Fin 20) (i j : Fin 1024) : Y3 m c (Proc.devRef .tc main_v19) (ix3 t i j)
    = Spec.dis (adj m c t) i * Spec.edge (adj m c t) i j * Spec.dis (adj m c t) j :=
  ops2_v19 (Y2 m c) t i j _ (Spec.dis (adj m c t)) (Y2_v11 m c t i j) fun i => ops2_v13 (Y2 m c) t i _ (Y2_v11 m c t)

/-- and the features after the first layer. -/
theorem Y4_v26 (t : Fin 20) (i : Fin 1024) (h : Fin 256) : Y4 m c (Proc.devRef .tc main_v26) (ix3 t i h)
    = Spec.layer1 (adj m c t) (fun k p => arg m c main_arg0 (ix3 t k p)) (fun p h => arg m c main_arg3 (ix2 p h))
        (fun h => arg m c main_arg4 (ix1 h)) i h :=
  ops3_v26 (Y3 m c) t i h _ (ops2_v25 (Y2 m c) t i h
    (fun i j => Spec.dis (adj m c t) i * Spec.edge (adj m c t) i j * Spec.dis (adj m c t) j)
    (fun k p => arg m c main_arg0 (ix3 t k p)) (fun p h => arg m c main_arg3 (ix2 p h)) (arg m c main_arg4 (ix1 h)) (Y3_v19 m c t)
    (fun k q => congrFun (Y2_arg m c main_arg0 (by decide) (by decide)) _)
    (fun q h => congrFun (Y2_arg m c main_arg3 (by decide) (by decide)) _)
    (congrFun (Y2_arg m c main_arg4 (by decide) (by decide)) _))

/-- With every node kept the loop is entered with the features of the graph layers. -/
theorem entry_feat (hk : ∀ i, arg m c main_arg2 i = 1#1) (t : Fin 20) :
    (fun n q => feat (entryContents preI m c) t n q) = feats m c t := by
  funext n q
  have hv2 : Y4 m c (Proc.devRef .tc main_v2) (ix2 t n) = (1 : EReal) :=
    (congrFun ((after_of_writes_sub hostOps0_3 _ hostOps0_3_writes (by decide)).trans
      ((after_of_writes_sub hostOps0_2 _ hostOps0_2_writes (by decide)).trans
        (after_of_writes_sub hostOps0_1 _ hostOps0_1_writes (by decide)))) _).trans (ops0_v2 (Y0 m c) hk t n)
  have e := ops4_v40_0 (Y4 m c) t n q
    (fun i j => Spec.dis (adj m c t) i * Spec.edge (adj m c t) i j * Spec.dis (adj m c t) j)
    (Spec.layer1 (adj m c t) (fun k p => arg m c main_arg0 (ix3 t k p)) (fun p h => arg m c main_arg3 (ix2 p h))
      (fun h => arg m c main_arg4 (ix1 h)))
    (fun q h => arg m c main_arg5 (ix2 q h)) (arg m c main_arg6 (ix1 q)) 1
    (fun i j => (congrFun (after_of_writes_sub hostOps0_3 _ hostOps0_3_writes (by decide)) _).trans (Y3_v19 m c t i j))
    (Y4_v26 m c t) (fun q h => congrFun (Y4_arg m c main_arg5 (by decide) (by decide) (by decide) (by decide)) _)
    (congrFun (Y4_arg m c main_arg6 (by decide) (by decide) (by decide) (by decide)) _) hv2
  refine e.trans ?_
  rw [mul_one]
  rfl

/-- The loop carries the recurrent weights and biases as they were launched (`entry_wih` to `entry_bhh`). -/
theorem entry_wih : entryContents preI m c (Proc.devRef .tc main_v40_1) = arg m c main_arg7 := by
  simp only [entryContents, afterL_cons, afterL_nil]
  after_reads_simp
  rfl

theorem entry_whh : entryContents preI m c (Proc.devRef .tc main_v40_2) = arg m c main_arg8 := by
  simp only [entryContents, afterL_cons, afterL_nil]
  after_reads_simp
  rfl

theorem entry_bih : entryContents preI m c (Proc.devRef .tc main_v40_3) = arg m c main_arg9 := by
  simp only [entryContents, afterL_cons, afterL_nil]
  after_reads_simp
  rfl

theorem entry_bhh : entryContents preI m c (Proc.devRef .tc main_v40_4) = arg m c main_arg10 := by
  simp only [entryContents, afterL_cons, afterL_nil]
  after_reads_simp
  rfl

/-! ## The result -/

/-- The dense head on the history's row. -/
theorem out_at (X : Valuation τ sig (Elt Ideal)) (b : Fin 8) (n : Fin 128) (t : Fin 20) (o : Fin 64)
    (h : Fin 256 → EReal) (w1 : Mat 256 256) (b1 : Fin 256 → EReal) (w2 : Mat 256 64) (b2 : Fin 64 → EReal)
    (hh : ∀ q, X (Proc.devRef .tc main_v40_8) (ix3 ⟨b.val * 128 + n.val, by omega⟩ t q) = h q)
    (h11 : ∀ p q, X (Proc.devRef .tc main_arg11) (ix2 p q) = w1 p q) (h12 : ∀ q, X (Proc.devRef .tc main_arg12) (ix1 q) = b1 q)
    (h13 : ∀ q o, X (Proc.devRef .tc main_arg13) (ix2 q o) = w2 q o) (h14 : ∀ o, X (Proc.devRef .tc main_arg14) (ix1 o) = b2 o) :
    out_main_v50 X (ix4 b n t o) = Spec.head w1 b1 w2 b2 h o := by
  unfold Spec.head
  simp only [← hh, ← h11, ← h12, ← h13, ← h14]
  pointwise [out_main_v50]

/-- The reference's result is the plain mathematics of its arguments, with every node kept. -/
theorem value (hk : ∀ i, arg m c main_arg2 i = 1#1) : out_main_v50 (STEP^[1024] (entryContents preI m c))
    = Spec.result (arg m c main_arg0) (arg m c main_arg1) (arg m c main_arg3)
    (arg m c main_arg4) (arg m c main_arg5) (arg m c main_arg6) (arg m c main_arg7) (arg m c main_arg8) (arg m c main_arg9)
    (arg m c main_arg10) (arg m c main_arg11) (arg m c main_arg12) (arg m c main_arg13) (arg m c main_arg14) := by
  have hE : ∀ t k, stateOf (entryContents preI m c) t k
      = Spec.hidden (arg m c main_arg7) (arg m c main_arg8) (arg m c main_arg9) (arg m c main_arg10) (feats m c t) k := by
    intro t k
    unfold stateOf Spec.hidden
    rw [entry_feat m c hk t]
    unfold Wih Whh Value.bih Value.bhh
    rw [entry_wih, entry_whh, entry_bih, entry_bhh]
  have inv := inv_iter (E := entryContents preI m c) (ctr_entry m c) (fun t q => ops4_v40_6 (Y4 m c) t q)
    (fun t q => ops4_v40_7 (Y4 m c) t q) 1024 (Nat.le_refl _)
  have h11 := iter_main_arg11 m c 1024
  have h12 := iter_main_arg12 m c 1024
  have h13 := iter_main_arg13 m c 1024
  have h14 := iter_main_arg14 m c 1024
  generalize STEP^[1024] (entryContents preI m c) = X at inv h11 h12 h13 h14
  have key : ∀ (b : Fin 8) (n : Fin 128) (t : Fin 20) (o : Fin 64), out_main_v50 X (ix4 b n t o)
      = Spec.resultAt (arg m c main_arg0) (arg m c main_arg1) (arg m c main_arg3)
    (arg m c main_arg4) (arg m c main_arg5) (arg m c main_arg6) (arg m c main_arg7) (arg m c main_arg8) (arg m c main_arg9)
    (arg m c main_arg10) (arg m c main_arg11) (arg m c main_arg12) (arg m c main_arg13) (arg m c main_arg14) b n t o := by
    intro b n t o
    have hrow : ∀ q, X (Proc.devRef .tc main_v40_8) (ix3 ⟨b.val * 128 + n.val, by omega⟩ t q)
        = (Spec.hidden (arg m c main_arg7) (arg m c main_arg8) (arg m c main_arg9) (arg m c main_arg10) (feats m c t)
            (b.val * 128 + n.val + 1)).1 q := by
      intro q
      rw [← hE t (b.val * 128 + n.val + 1)]
      exact inv.hist ⟨b.val * 128 + n.val, by omega⟩ (by show b.val * 128 + n.val < 1024; omega) t q
    exact out_at X b n t o _ (fun p q => arg m c main_arg11 (ix2 p q)) (fun q => arg m c main_arg12 (ix1 q))
      (fun q o => arg m c main_arg13 (ix2 q o)) (fun o => arg m c main_arg14 (ix1 o)) hrow
      (fun p q => congrFun h11 _) (fun q => congrFun h12 _) (fun q o => congrFun h13 _) (fun o => congrFun h14 _)
  funext y
  have e : y = ix4 (y 0) (y 1) (y 2) (y 3) := by
    funext a
    fin_cases a <;> rfl
  rw [e]
  exact key (y 0) (y 1) (y 2) (y 3)

end Cert.ReferenceIdeal.Value

end
-- ==== Proof.Algebraic.lean ====
module

public import proofs.«01_k».proof.Defs
public import proofs.«01_k».proof.Proof.KernelValue
public import proofs.«01_k».proof.Proof.RefLoop
public import proofs.«01_k».proof.Proof.Frames
public import Idealize.ShloMosaic.Lib.ReduceAll

/-!
# The two results are equal

With every node kept, from memories that agree on the arguments, both programs end with the result `Spec.result` of the
arguments.
-/

@[expose] public section

set_option maxRecDepth 16384

noncomputable section

namespace Cert.Proof

open Idealize.ShloMosaic Idealize.SL.Sem

/-- The side conditions of the precondition's one operation. -/
theorem keptFacts : Cert.Pre_every_node_kept.Facts := ⟨by decide, by decide⟩

/-- The kernel over the extended reals, with the precondition: it needs none. -/
theorem frame_kernelIdeal_kept : Cert.quiescent_KernelIdeal_pre_every_node_kept (hKernelIdeal := Cert.KernelIdeal.Gen.facts)
    (hPre_every_node_kept := keptFacts) := fun m g _ =>
  Cert.KernelIdeal.Run.frame (F := Ideal) m g

/-- The reference, with the precondition. -/
theorem frame_referenceIdeal_kept : Cert.quiescent_ReferenceIdeal_pre_every_node_kept (hReferenceIdeal := Cert.ReferenceIdeal.Gen.facts)
    (hPre_every_node_kept := keptFacts) := fun m g _ =>
  (θ_run _ _ _).mono (fun r h => ⟨fun c => (h c).2, sem_eq_zero_of_no_sems (by decide) r.2⟩)
    (Cert.ReferenceIdeal.Value.run (F := Ideal) m g)

instance : Subsingleton (Cert.Pre_every_node_kept.S_).Idx := ⟨fun a b => funext fun k => k.elim0⟩

/-- The precondition says that the mask is one at every node. -/
theorem kept (x : IVec Cert.Pre_every_node_kept.S8x20x128 1)
    (h : Host.reduce IntOp.andi x (constantI Cert.Pre_every_node_kept.S_ 1 1#1) keptFacts.reducesTo_S8x20x128_S_d0_1_2 keptFacts.h_S_ = fun _ => 1#1) :
    ∀ i, x i = 1#1 := fun i =>
  Host.reduce_andi_all x _ _ _ _ (congrFun h (Shape.Idx.first keptFacts.h_S_)) i

/-- The value claim: the kernel's result is the reference's, both being `Spec.result` of the arguments. -/
theorem algebraic : Cert.algebraic_KernelIdeal_ReferenceIdeal_pre_every_node_kept (hKernelIdeal := Cert.KernelIdeal.Gen.facts)
    (hReferenceIdeal := Cert.ReferenceIdeal.Gen.facts) (hPre_every_node_kept := keptFacts) := by
  intro m g m' g' hpre hargs
  refine ⟨fun c => Cert.KernelIdeal.Run.W5 m g c (Proc.devRef .tc Cert.KernelIdeal.main_v0), ?_, ?_⟩
  · exact (θ_run _ _ _).mono (fun r h => h.1) (Cert.KernelIdeal.Run.run (F := Ideal) m g)
  · refine (θ_run _ _ _).mono (fun r h c => ⟨(h c).1.trans ?_, (h c).2⟩) (Cert.ReferenceIdeal.Value.run (F := Ideal) m' g')
    obtain ⟨e0, e1, e2, e3, e4, e5, e6, e7, e8, e9, e10, e11, e12, e13, e14⟩ := hargs c
    have hk : ∀ i, Cert.ReferenceIdeal.Value.arg m' c Cert.ReferenceIdeal.main_arg2 i = 1#1 := by
      intro i
      unfold Cert.ReferenceIdeal.Value.arg
      rw [e2]
      exact kept (m ((c.tc : Thread Cert.KernelIdeal.nD Cert.KernelIdeal.τ).loc Cert.KernelIdeal.main_arg2)) (hpre c) i
    refine (Cert.ReferenceIdeal.Value.value m' c hk).trans ?_
    refine Eq.trans ?_ (Cert.KernelIdeal.Run.value m g c).symm
    unfold Cert.ReferenceIdeal.Value.arg Cert.KernelIdeal.Run.arg
    rw [e0, e1, e3, e4, e5, e6, e7, e8, e9, e10, e11, e12, e13, e14]

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim :=
  ⟨Cert.Kernel.Gen.facts, Cert.KernelIdeal.Gen.facts, Cert.ReferenceIdeal.Gen.facts, keptFacts,
    frame_kernel, frame_kernelIdeal, frame_kernelIdeal_kept, frame_referenceIdeal, frame_referenceIdeal_kept, trivial,
    algebraic⟩

end Cert.Proof

end
